-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_moderate_KernelIdeal [hPre_moderate_KernelIdeal : Cert.Pre_moderate_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_moderate_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_moderate_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_moderate_ReferenceIdeal [hPre_moderate_ReferenceIdeal : Cert.Pre_moderate_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_moderate_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_moderate_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_moderate_KernelIdeal [hKernelIdeal : Cert.KernelIdeal.Facts] [hPre_moderate_KernelIdeal : Cert.Pre_moderate_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_moderate_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_moderate_ReferenceIdeal [hReferenceIdeal : Cert.ReferenceIdeal.Facts] [hPre_moderate_ReferenceIdeal : Cert.Pre_moderate_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_moderate_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_ReferenceIdeal_pre_moderate_KernelIdeal [hKernelIdeal : Cert.KernelIdeal.Facts] [hReferenceIdeal : Cert.ReferenceIdeal.Facts] [hPre_moderate_KernelIdeal : Cert.Pre_moderate_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_moderate_KernelIdeal m →
    (∀ c : Dev Cert.KernelIdeal.nD,
      m ((c.tc : Thread Cert.KernelIdeal.nD Cert.KernelIdeal.τ).loc Cert.KernelIdeal.main_arg0) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 128]⟩ ⟨2, ![1024, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 1024]⟩ ⟨2, ![1024, 1024]⟩ 0 8 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = Layout.block ⟨2, ![1024, 128]⟩ ⟨2, ![1024, 1024]⟩ 1 8 c (m' (((0 : Dev Cert.SiluIdeal.nD).tc : Thread Cert.SiluIdeal.nD Cert.SiluIdeal.τ).loc Cert.SiluIdeal.main_arg1))) →
    ∃ (v0 : Buf (Elt Ideal) (((0 : Dev Cert.SiluIdeal.nD).tc : Thread Cert.SiluIdeal.nD Cert.SiluIdeal.τ).loc Cert.SiluIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 128]⟩ ⟨2, ![1024, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v7) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hPre_moderate_KernelIdeal : Cert.Pre_moderate_KernelIdeal.Facts) (hPre_moderate_ReferenceIdeal : Cert.Pre_moderate_ReferenceIdeal.Facts),
    quiescent_Kernel (hKernel := hKernel)
    ∧ quiescent_KernelIdeal (hKernelIdeal := hKernelIdeal)
    ∧ quiescent_KernelIdeal_pre_moderate_KernelIdeal (hKernelIdeal := hKernelIdeal) (hPre_moderate_KernelIdeal := hPre_moderate_KernelIdeal)
    ∧ quiescent_ReferenceIdeal (hReferenceIdeal := hReferenceIdeal)
    ∧ quiescent_ReferenceIdeal_pre_moderate_ReferenceIdeal (hReferenceIdeal := hReferenceIdeal) (hPre_moderate_ReferenceIdeal := hPre_moderate_ReferenceIdeal)
    ∧ quiescent_SiluIdeal (hSiluIdeal := hSiluIdeal)
    ∧ preserves_Kernel_KernelIdeal
    ∧ algebraic_KernelIdeal_ReferenceIdeal_pre_moderate_KernelIdeal (hKernelIdeal := hKernelIdeal) (hReferenceIdeal := hReferenceIdeal) (hPre_moderate_KernelIdeal := hPre_moderate_KernelIdeal)
    ∧ algebraic_KernelIdeal_SiluIdeal (hKernelIdeal := hKernelIdeal) (hSiluIdeal := hSiluIdeal)
-- ==== Pre_moderate_KernelIdeal.lean ====
abbrev S128x1024 : Shape := ⟨2, ![128, 1024]⟩
abbrev S1024x128 : Shape := ⟨2, ![1024, 128]⟩
abbrev S_ : Shape := ⟨0, ![]⟩
abbrev S128 : Shape := ⟨1, ![128]⟩

class Facts : Prop where
  bitsLt_bf16_f32 : FTy.bits .bf16 < FTy.bits .f32
  reducesTo_S128x1024_S128_d1 : S128x1024.ReducesTo [1] S128
  h_S_ : 0 < S_.numel
  bcast_S_S128 : S_.BroadcastsInDim S128 (![] : Fin 0 → Fin S128.rank)
  reducesTo_S1024x128_S128_d0 : S1024x128.ReducesTo [0] S128

variable [Facts]

def fn {F : FTy → Type} [FloatOps F] (main_arg0 : FVec F S128x1024 .bf16) (main_arg1 : FVec F S1024x128 .bf16) : IVec S128 1 × IVec S128 1 :=
  let main_v0 : FVec F S128x1024 .f32 := (extf .f32 · bitsLt_bf16_f32) main_arg0
  let main_v1 : FVec F S1024x128 .f32 := (extf .f32 · bitsLt_bf16_f32) main_arg1
  let main_v2 : FVec F S128x1024 .f32 := mulf main_v0 main_v0
  let main_cst : FVec F S_ .f32 := constant S_ .f32 0x00000000#32
  let main_v3 : FVec F S128 .f32 := (fun x v => Host.reduceAdd x v reducesTo_S128x1024_S128_d1 h_S_) main_v2 main_cst
  let main_cst_0 : FVec F S_ .f32 := constant S_ .f32 0x45000000#32
  let main_v4 : FVec F S128 .f32 := broadcastInDim S128 ![] bcast_S_S128 main_cst_0
  let main_v5 : IVec S128 1 := cmpf .ole main_v3 main_v4
  let main_v6 : FVec F S1024x128 .f32 := mulf main_v1 main_v1
  let main_cst_1 : FVec F S_ .f32 := constant S_ .f32 0x00000000#32
  let main_v7 : FVec F S128 .f32 := (fun x v => Host.reduceAdd x v reducesTo_S1024x128_S128_d0 h_S_) main_v6 main_cst_1
  let main_cst_2 : FVec F S_ .f32 := constant S_ .f32 0x3FE00000#32
  let main_v8 : FVec F S128 .f32 := broadcastInDim S128 ![] bcast_S_S128 main_cst_2
  let main_v9 : IVec S128 1 := cmpf .ole main_v7 main_v8
  (main_v5, main_v9)
-- ==== Pre_moderate_ReferenceIdeal.lean ====
abbrev S1024x1024 : Shape := ⟨2, ![1024, 1024]⟩
abbrev S_ : Shape := ⟨0, ![]⟩
abbrev S1024 : Shape := ⟨1, ![1024]⟩

class Facts : Prop where
  bitsLt_bf16_f32 : FTy.bits .bf16 < FTy.bits .f32
  reducesTo_S1024x1024_S1024_d1 : S1024x1024.ReducesTo [1] S1024
  h_S_ : 0 < S_.numel
  bcast_S_S1024 : S_.BroadcastsInDim S1024 (![] : Fin 0 → Fin S1024.rank)
  reducesTo_S1024x1024_S1024_d0 : S1024x1024.ReducesTo [0] S1024

variable [Facts]

def fn {F : FTy → Type} [FloatOps F] (main_arg0 : FVec F S1024x1024 .bf16) (main_arg1 : FVec F S1024x1024 .bf16) : IVec S1024 1 × IVec S1024 1 :=
  let main_v0 : FVec F S1024x1024 .f32 := (extf .f32 · bitsLt_bf16_f32) main_arg0
  let main_v1 : FVec F S1024x1024 .f32 := (extf .f32 · bitsLt_bf16_f32) main_arg1
  let main_v2 : FVec F S1024x1024 .f32 := mulf main_v0 main_v0
  let main_cst : FVec F S_ .f32 := constant S_ .f32 0x00000000#32
  let main_v3 : FVec F S1024 .f32 := (fun x v => Host.reduceAdd x v reducesTo_S1024x1024_S1024_d1 h_S_) main_v2 main_cst
  let main_cst_0 : FVec F S_ .f32 := constant S_ .f32 0x45000000#32
  let main_v4 : FVec F S1024 .f32 := broadcastInDim S1024 ![] bcast_S_S1024 main_cst_0
  let main_v5 : IVec S1024 1 := cmpf .ole main_v3 main_v4
  let main_v6 : FVec F S1024x1024 .f32 := mulf main_v1 main_v1
  let main_cst_1 : FVec F S_ .f32 := constant S_ .f32 0x00000000#32
  let main_v7 : FVec F S1024 .f32 := (fun x v => Host.reduceAdd x v reducesTo_S1024x1024_S1024_d0 h_S_) main_v6 main_cst_1
  let main_cst_2 : FVec F S_ .f32 := constant S_ .f32 0x3FE00000#32
  let main_v8 : FVec F S1024 .f32 := broadcastInDim S1024 ![] bcast_S_S1024 main_cst_2
  let main_v9 : IVec S1024 1 := cmpf .ole main_v7 main_v8
  (main_v5, main_v9)
-- ==== Kernel.lean ====
abbrev S128x1024 : Shape := ⟨2, ![128, 1024]⟩
abbrev S1024x128 : Shape := ⟨2, ![1024, 128]⟩
abbrev S8x128x1024 : Shape := ⟨3, ![8, 128, 1024]⟩
abbrev S8 : Shape := ⟨1, ![8]⟩
abbrev S_ : Shape := ⟨0, ![]⟩
abbrev S1 : Shape := ⟨1, ![1]⟩
abbrev S1x128x1024 : Shape := ⟨3, ![1, 128, 1024]⟩
abbrev S128x128 : Shape := ⟨2, ![128, 128]⟩

abbrev nBuf : Space → Nat
  | .hbm => 3
  | .vmem => 4
  | .smem => 0
  | _ => 0

abbrev bufTy : (tb : Table) → Fin (tcTables nBuf tb) → BufTy
  | .hbm, ⟨0, _⟩ => ⟨S128x1024, .bf16⟩
  | .hbm, ⟨1, _⟩ => ⟨S1024x128, .bf16⟩
  | .hbm, ⟨2, _⟩ => ⟨S1024x128, .f32⟩
  | .local _ .vmem, ⟨0, _⟩ => ⟨S128x1024, .bf16⟩
  | .local _ .vmem, ⟨1, _⟩ => ⟨S1024x128, .bf16⟩
  | .local _ .vmem, ⟨2, _⟩ => ⟨S1024x128, .f32⟩
  | .local _ .vmem, ⟨3, _⟩ => ⟨S8x128x1024, .bf16⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_34 : BitVec 32 := 0#32
  let c0_i32_35 : BitVec 32 := 0#32
  ![v2.toNat, 0, 0]
def k0_dev8 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v32 : BitVec 32 := Scalar.addi v2 c1_i32_29
  let c8_i32_30 : BitVec 32 := 8#32
  let v33 : BitVec 32 := Scalar.remsi v32 c8_i32_30
  let c1_i32_32 : BitVec 32 := 1#32
  let v34 : BitVec 32 := Scalar.muli v33 c1_i32_32
  let v35 : BitVec 32 := Scalar.addi c0_i32_33 v34
  v35.toNat
def k0_dev9 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_36 : BitVec 32 := 2#32
  let v42 : BitVec 32 := Scalar.addi v2 c2_i32_36
  let c8_i32_37 : BitVec 32 := 8#32
  let v43 : BitVec 32 := Scalar.remsi v42 c8_i32_37
  let c1_i32_39 : BitVec 32 := 1#32
  let v44 : BitVec 32 := Scalar.muli v43 c1_i32_39
  let v45 : BitVec 32 := Scalar.addi c0_i32_40 v44
  v45.toNat
def k0_dev10 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_43 : BitVec 32 := 3#32
  let v52 : BitVec 32 := Scalar.addi v2 c3_i32_43
  let c8_i32_44 : BitVec 32 := 8#32
  let v53 : BitVec 32 := Scalar.remsi v52 c8_i32_44
  let c1_i32_46 : BitVec 32 := 1#32
  let v54 : BitVec 32 := Scalar.muli v53 c1_i32_46
  let v55 : BitVec 32 := Scalar.addi c0_i32_47 v54
  v55.toNat
def k0_dev11 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_50 : BitVec 32 := 4#32
  let v62 : BitVec 32 := Scalar.addi v2 c4_i32_50
  let c8_i32_51 : BitVec 32 := 8#32
  let v63 : BitVec 32 := Scalar.remsi v62 c8_i32_51
  let c1_i32_53 : BitVec 32 := 1#32
  let v64 : BitVec 32 := Scalar.muli v63 c1_i32_53
  let v65 : BitVec 32 := Scalar.addi c0_i32_54 v64
  v65.toNat
def k0_dev12 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_57 : BitVec 32 := 5#32
  let v72 : BitVec 32 := Scalar.addi v2 c5_i32_57
  let c8_i32_58 : BitVec 32 := 8#32
  let v73 : BitVec 32 := Scalar.remsi v72 c8_i32_58
  let c1_i32_60 : BitVec 32 := 1#32
  let v74 : BitVec 32 := Scalar.muli v73 c1_i32_60
  let v75 : BitVec 32 := Scalar.addi c0_i32_61 v74
  v75.toNat
def k0_dev13 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_64 : BitVec 32 := 6#32
  let v82 : BitVec 32 := Scalar.addi v2 c6_i32_64
  let c8_i32_65 : BitVec 32 := 8#32
  let v83 : BitVec 32 := Scalar.remsi v82 c8_i32_65
  let c1_i32_67 : BitVec 32 := 1#32
  let v84 : BitVec 32 := Scalar.muli v83 c1_i32_67
  let v85 : BitVec 32 := Scalar.addi c0_i32_68 v84
  v85.toNat
def k0_dev14 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_71 : BitVec 32 := 7#32
  let v92 : BitVec 32 := Scalar.addi v2 c7_i32_71
  let c8_i32_72 : BitVec 32 := 8#32
  let v93 : BitVec 32 := Scalar.remsi v92 c8_i32_72
  let c1_i32_74 : BitVec 32 := 1#32
  let v94 : BitVec 32 := Scalar.muli v93 c1_i32_74
  let v95 : BitVec 32 := Scalar.addi c0_i32_75 v94
  v95.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v109 : BitVec 32 := Scalar.muli v2 c128_i32
  let v110 : Index := Scalar.indexCast v109
  let c0_81 : Index := 0#32
  ![v110.toNat, 0]
def k0_off4 (d0 : Dev nD) (c1_i32_82 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v112 : BitVec 32 := Scalar.addi v2 c1_i32_82
  let c8_i32_83 : BitVec 32 := 8#32
  let v113 : BitVec 32 := Scalar.remsi v112 c8_i32_83
  ![v113.toNat]
def k0_off5 (d0 : Dev nD) (c1_i32_82 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v112 : BitVec 32 := Scalar.addi v2 c1_i32_82
  let c8_i32_83 : BitVec 32 := 8#32
  let v113 : BitVec 32 := Scalar.remsi v112 c8_i32_83
  let c0_i32_87 : BitVec 32 := 0#32
  let c0_i32_88 : BitVec 32 := 0#32
  ![v113.toNat, 0, 0]
def k0_off6 (d0 : Dev nD) (c1_i32_82 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v112 : BitVec 32 := Scalar.addi v2 c1_i32_82
  let c8_i32_83 : BitVec 32 := 8#32
  let v113 : BitVec 32 := Scalar.remsi v112 c8_i32_83
  let v120 : Index := Scalar.indexCast v113
  let c0_89 : Index := 0#32
  let c0_90 : Index := 0#32
  ![v120.toNat, 0, 0]
def k0_off7 (d0 : Dev nD) (c1_i32_82 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v112 : BitVec 32 := Scalar.addi v2 c1_i32_82
  let c8_i32_83 : BitVec 32 := 8#32
  let v113 : BitVec 32 := Scalar.remsi v112 c8_i32_83
  let c128_i32_94 : BitVec 32 := 128#32
  let v128 : BitVec 32 := Scalar.muli v113 c128_i32_94
  let v129 : Index := Scalar.indexCast v128
  let c0_95 : Index := 0#32
  ![v129.toNat, 0]
abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== SiluIdeal.lean ====
abbrev S1024x1024 : Shape := ⟨2, ![1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.KernelIdeal.Talk.lean ====
/-
# The all-gather's protocol

Eight devices; device `c` holds the rows `128 c … 128 c + 127` of `x` and the columns `128 c … 128 c + 127` of `w`. Each
device copies its rows into slot `c` of every other device's gather buffer and multiplies each of the eight row blocks
by its own columns. `peer c j` is device `c + j` (mod 8).

The cells of device `c`, one round each (round 0):

* the barrier cell: one duty per other device `d`, of one unit, paid by `d`'s signal. It hands over `d`'s slot `c`,
  at any contents: what the transfer from `c` to `d` needs. `c` waits for all seven.
* the receive cell `d`, for each `d ≠ c`: one duty of a block's credit, paid by the transfer from `d` when it lands. It
  hands over `c`'s slot `d`, holding device `d`'s rows of `x`.
* the send cell `j`, for `j = 1 … 7`: one duty of a block's credit, paid by the transfer to `peer c j` when its source
  has been read. It gives back the share `j` of the staged `x` which that transfer read.
* receive cell `c` and send cell 0 are never touched.

Order on `c`: signals to `peer c 1 … 7`, the barrier wait, transfers to `peer c 1 … 7`, the receive waits, the send
waits. Levels: barrier 1, receive 2, all else 0; from the receive waits on nothing is owed.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Memref
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The talk's rounds, its duties named by devices; beside them the pipeline library's own. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Devices and cells -/

set_option backward.proofsInPublic true in
/-- The device `j` places after `c`. -/
def peer (c : Dev nD) (j : Fin 8) : Dev nD := ⟨(c.val + j.val) % 8, Nat.mod_lt _ (by decide)⟩

/-- The barrier semaphore: the runtime's, outside the launch. -/
abbrev barS : Sem sig := (SemArray.scalar (sig.barrier 0 rfl) : Sems sig S_).sem
set_option backward.proofsInPublic true in
/-- The send semaphore `j`. -/
def sendS (j : Fin 8) : DmaSem sig := Fin.mk (3 + j.val) (by show _ < 19; omega)
set_option backward.proofsInPublic true in
/-- The receive semaphore for what device `d` sends. -/
def recvS (d : Dev nD) : DmaSem sig := Fin.mk (11 + d.val) (by have : d.val < 8 := d.isLt; show _ < 19; omega)

abbrev barCell (c : Dev nD) : GSem nD τ sig := ((c : Thread nD τ), .reg barS)
abbrev sendCell (c : Dev nD) (j : Fin 8) : GSem nD τ sig := ((c : Thread nD τ), .dma (sendS j))
abbrev recvCell (c d : Dev nD) : GSem nD τ sig := ((c : Thread nD τ), .dma (recvS d))

/-- The program's own choices of semaphore are these. -/
theorem send_sem (j : Fin 8) (off : Fin 1 → Nat) (hoff : off = ![j.val]) (h : ∀ a, off a + S1.size a ≤ S8.size a) :
    ((cc0_scratch1.slice (Rect.unit (s := S8) off S1.size h)).squeeze S_ squeezes_S1_S_).sem = sendS j := by
  subst hoff; revert h; revert j; decide
theorem recv_sem (d : Dev nD) (off : Fin 1 → Nat) (hoff : off = ![d.val]) (h : ∀ a, off a + S1.size a ≤ S8.size a) :
    ((cc0_scratch2.slice (Rect.unit (s := S8) off S1.size h)).squeeze S_ squeezes_S1_S_).sem = recvS d := by
  subst hoff; revert h; revert d; decide

/-! ## Memory -/

abbrev xM : Memref sig .tc .vmem S128x1024 .bf16 := Memref.whole cc0_stg0_0
abbrev wM : Memref sig .tc .vmem S1024x128 .bf16 := Memref.whole cc0_stg1_0
abbrev oM : Memref sig .tc .vmem S1024x128 .f32 := Memref.whole cc0_stg2_0
abbrev gM : Memref sig .tc .vmem S8x128x1024 .bf16 := Memref.whole cc0_scratch0

theorem slot_inb (d : Dev nD) : ∀ a, (![d.val, 0, 0] : Fin 3 → Nat) a + S1x128x1024.size a ≤ S8x128x1024.size a := by
  revert d; decide
/-- Slot `d` of the gather buffer, as a box of it, -/
abbrev slotR (d : Dev nD) : Rect S8x128x1024 := Rect.unit (s := S8x128x1024) ![d.val, 0, 0] S1x128x1024.size (slot_inb d)
/-- and as the memref the copies go through. -/
abbrev slotM (d : Dev nD) : Memref sig .tc .vmem S128x1024 .bf16 :=
  (gM.slice (slotR d) (fun _ => rfl)).squeeze S128x1024 squeezes_S1x128x1024_S128x1024

/-- A block's credit. -/
abbrev N : ℕ := (xM : Memref sig .tc .vmem S128x1024 .bf16).view.dmaCredit
theorem N_pos : 0 < N := View.dmaCredit_pos _ (by decide)
theorem slot_credit (d : Dev nD) : (slotM d).view.dmaCredit = N := rfl

/-- Device `c`'s staged rows of `x` and columns of `w`. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- Device `c`'s slot `d`, holding `X`; -/
def slotHas (c d : Dev nD) (X : S128x1024.Idx → Elt F .bf16) : sProp 𝕄 := owns (c : Thread nD τ) (slotM d) fullShare X
/-- at any contents. -/
def slotAny (c d : Dev nD) : sProp 𝕄 := iprop(∃ X, slotHas (F := F) c d X)
/-- The share `k` of device `c`'s staged `x`. -/
def xTok (c : Dev nD) (k : ℕ) : sProp 𝕄 :=
  (xM : Memref sig .tc .vmem S128x1024 .bf16).view.loc (c : Thread nD τ)
    ↦[(xM : Memref sig .tc .vmem S128x1024 .bf16).view.set]{Transfers.shareTokN fullShare k} xstg m c

instance slotHas_storable (c d : Dev nD) (X) : BI.Storable (upEmb : UEmb _ 𝕄) (slotHas (F := F) c d X) := by
  unfold slotHas owns; infer_instance
instance slotAny_storable (c d : Dev nD) : BI.Storable (upEmb : UEmb _ 𝕄) (slotAny (F := F) c d) := by
  unfold slotAny; infer_instance
instance xTok_storable (c : Dev nD) (k) : BI.Storable (upEmb : UEmb _ 𝕄) (xTok m c k) := by unfold xTok; infer_instance

/-! ## The schedule -/

set_option backward.proofsInPublic true in
/-- The device a receive semaphore's number stands for. -/
def devOf (n : ℕ) : Dev nD := ⟨(n - 11) % 8, Nat.mod_lt _ (by decide)⟩
theorem devOf_recvS (d : Dev nD) : devOf (recvS d).val = d := by revert d; decide

/-- The numbers of the DMA semaphores of device `c` that the talk uses. -/
abbrev Used (c : Dev nD) (q : DmaSem sig) : Prop := 3 < q.val ∧ q.val ≠ 11 + c.val

def talk : Rounds.Schedule (GSem nD τ sig) (Dev nD) 𝕄 where
  duties g r :=
    if r = 0 ∧ g.1.2 = .tc then
      match g.2 with
      | .reg _ => Finset.univ.erase g.1.1
      | .dma q => if Used g.1.1 q then {0} else ∅
    else ∅
  unitless _ := False
  amount g _ _ := match g.2 with | .reg _ => 1 | .dma _ => N
  payload g _ d :=
    match g.2 with
    | .reg _ => slotAny d g.1.1
    | .dma q => if 11 ≤ q.val then slotHas g.1.1 (devOf q.val) (xstg m (devOf q.val)) else xTok m g.1.1 (q.val - 3)
  amount_pos g _ _ _ := by
    rcases g with ⟨_, _ | _⟩
    · exact Nat.one_pos
    · exact N_pos

instance talk_payload_storable (g : GSem nD τ sig) (r : ℕ) (d : Dev nD) :
    BI.Storable (upEmb : UEmb _ 𝕄) ((talk (F := F) m).payload g r d) := by
  rcases g with ⟨p, s | q⟩
  · show BI.Storable upEmb (slotAny d p.1); infer_instance
  · show BI.Storable upEmb (if 11 ≤ q.val then slotHas p.1 (devOf q.val) (xstg m (devOf q.val)) else xTok m p.1 (q.val - 3))
    split <;> infer_instance

section Sched
variable (c d : Dev nD) (j : Fin 8)

theorem sendS_val : (sendS j).val = 3 + j.val := rfl
theorem recvS_val : (recvS d).val = 11 + d.val := rfl

theorem duties_bar : (talk (F := F) m).duties (barCell c) 0 = Finset.univ.erase c := by
  show (if (0 : ℕ) = 0 ∧ (c : Thread nD τ).2 = .tc then Finset.univ.erase c else ∅) = _
  exact if_pos ⟨rfl, rfl⟩
theorem duties_dma (q : DmaSem sig) (h : Used c q) :
    (talk (F := F) m).duties ((c : Thread nD τ), .dma q) 0 = {0} := by
  show (if (0 : ℕ) = 0 ∧ (c : Thread nD τ).2 = .tc then (if Used c q then {0} else ∅) else ∅) = _
  rw [if_pos ⟨rfl, rfl⟩, if_pos h]
theorem duties_unused (q : DmaSem sig) (h : ¬ Used c q) (r : ℕ) :
    (talk (F := F) m).duties ((c : Thread nD τ), .dma q) r = ∅ := by
  show (if r = 0 ∧ _ then (if Used c q then {0} else ∅) else ∅) = (∅ : Finset (Dev nD))
  rw [if_neg h]; exact ite_self _
theorem duties_later (g : GSem nD τ sig) : ∀ r, 1 ≤ r → (talk (F := F) m).duties g r = ∅ :=
  fun r hr => if_neg fun h => by omega

theorem used_send (hj : j ≠ 0) : Used c (sendS j) := by revert c j; decide
theorem used_recv (hd : d ≠ c) : Used c (recvS d) := by revert c d; decide
theorem not_used_send : ¬ Used c (sendS 0) := by revert c; decide
theorem not_used_recv : ¬ Used c (recvS c) := by revert c; decide

theorem expect_bar : (talk (F := F) m).expect (barCell c) 0 = 7 := by
  unfold Schedule.expect Schedule.amountOf
  rw [duties_bar, Finset.sum_congr rfl fun d _ => show (talk (F := F) m).amount (barCell c) 0 d = 1 from rfl, Finset.sum_const,
    Finset.card_erase_of_mem (Finset.mem_univ _)]; rfl
theorem expect_dma (q : DmaSem sig) (h : Used c q) : (talk (F := F) m).expect ((c : Thread nD τ), .dma q) 0 = N := by
  unfold Schedule.expect Schedule.amountOf; rw [duties_dma m c q h, Finset.sum_singleton]; rfl

theorem payload_bar : (talk (F := F) m).payload (barCell c) 0 d = slotAny d c := rfl
theorem payload_send : (talk (F := F) m).payload (sendCell c j) 0 0 = xTok m c j.val := by
  show (if 11 ≤ (sendS j).val then _ else xTok m c ((sendS j).val - 3)) = _
  rw [if_neg (by rw [sendS_val]; omega), sendS_val, Nat.add_sub_cancel_left]
theorem payload_recv : (talk (F := F) m).payload (recvCell c d) 0 0 = slotHas c d (xstg m d) := by
  show (if 11 ≤ (recvS d).val then slotHas c (devOf (recvS d).val) (xstg m (devOf (recvS d).val)) else _) = _
  rw [if_pos (by rw [recvS_val]; omega), devOf_recvS]

/-- What a wait on a cell of one duty hands over. -/
theorem rest_dma (q : DmaSem sig) (h : Used c q) :
    bigSep ((talk (F := F) m).duties ((c : Thread nD τ), .dma q) 0 \ ∅) (fun d => (talk (F := F) m).payload ((c : Thread nD τ), .dma q) 0 d)
      = (talk (F := F) m).payload ((c : Thread nD τ), .dma q) 0 0 := by
  rw [Finset.sdiff_empty, duties_dma m c q h, bigSep_singleton]

theorem peers_nodup : [peer c 1, peer c 2, peer c 3, peer c 4, peer c 5, peer c 6, peer c 7].Nodup := by revert c; decide
theorem peers_all : Finset.univ.erase c = [peer c 1, peer c 2, peer c 3, peer c 4, peer c 5, peer c 6, peer c 7].toFinset := by
  revert c; decide
theorem peer_ne (hj : j ≠ 0) : peer c j ≠ c := by revert c j; decide
theorem peer_zero : peer c 0 = c := by revert c; decide

/-- What the barrier wait hands over: slot `c` of every other device. -/
theorem rest_bar :
    bigSep ((talk (F := F) m).duties (barCell c) 0 \ ∅) (fun d => (talk (F := F) m).payload (barCell c) 0 d)
      = iprop(slotAny (peer c 1) c ∗ slotAny (peer c 2) c ∗ slotAny (peer c 3) c ∗ slotAny (peer c 4) c ∗ slotAny (peer c 5) c
          ∗ slotAny (peer c 6) c ∗ slotAny (F := F) (peer c 7) c) := by
  rw [Finset.sdiff_empty, duties_bar, BI.bigSep_eq_bigSepL_of_eq _ (peers_all c) (peers_nodup c)]; rfl

end Sched

/-! ## What each device owes, and the levels -/

/-- The credits of the transfers to `peer c j`, `j` in `l`, -/
def owR (c : Dev nD) : List (Fin 8) → CellTallies nD τ sig Unit
  | [] => 0
  | j :: l => owR c l + tallyAt (recvCell (peer c j) c) () N
abbrev peers : List (Fin 8) := [1, 2, 3, 4, 5, 6, 7]
/-- and all seven of them with the signals to `peer c j`, `j` in `l`. -/
def owB (c : Dev nD) : List (Fin 8) → CellTallies nD τ sig Unit
  | [] => owR c peers
  | j :: l => owB c l + tallyAt (barCell (peer c j)) () 1

abbrev O₀ (c : Dev nD) : CellTallies nD τ sig Unit := owB c peers

def L (g : GSem nD τ sig) : Finset Unit := if g.1.2 = .tc then {()} else ∅
def lv (g : GSem nD τ sig) (_ : Unit) : ℕ := match g.2 with | .reg _ => 1 | .dma q => if 11 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c d : Dev nD) (u : Unit) : lv (recvCell c d) u = 2 := if_pos (by rw [recvS_val]; omega)

theorem tally_pos {g g' : GSem nD τ sig} {u : Unit} {n : ℕ} {O : CellTallies nD τ sig Unit} (h : 0 < (O + tallyAt g () n) g' u) :
    0 < O g' u ∨ g' = g := by
  rw [Pi.add_apply, Finsupp.add_apply, tallyAt_apply] at h
  by_cases hg : g' = g
  · exact .inr hg
  · rw [if_neg fun h' => hg h'.1] at h; exact .inl h

theorem owR_pos {c : Dev nD} {g : GSem nD τ sig} {u : Unit} : ∀ l, 0 < owR c l g u → ∃ a d, g = recvCell a d
  | [], h => absurd h (Nat.lt_irrefl 0)
  | j :: l, h => (tally_pos h).elim (owR_pos l) fun e => ⟨_, _, e⟩
theorem owB_pos {c : Dev nD} {g : GSem nD τ sig} {u : Unit} : ∀ l, 0 < owB c l g u → (∃ a d, g = recvCell a d) ∨ ∃ a, g = barCell a
  | [], h => .inl (owR_pos peers h)
  | j :: l, h => (tally_pos h).elim (owB_pos l) fun e => .inr ⟨_, e⟩

/-- A staging wait is below all that is owed; -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owB_pos _ hg with ⟨a, d, rfl⟩ | ⟨a, rfl⟩ <;> exact Finset.mem_singleton_self _)
      (fun p hp => by rw [Finset.mem_singleton.mp hp]; dsimp only [lv]; rw [if_neg (by omega)])
      (fun g u hg => by
        rcases owB_pos _ hg with ⟨a, d, rfl⟩ | ⟨a, rfl⟩
        · rw [lv_recv]; decide
        · dsimp only [lv]; decide)
  · rw [MayWait_zero]; iintro -; iempintro

/-- the barrier wait below the transfers'. -/
theorem mayWait_bar (c : Dev nD) : (levAts L lv : sProp 𝕄) ⊢ MayWait (c : Thread nD τ) (.reg barS) () (owB c []) :=
  MayOwe.of_cut (L := L) (lev := lv) 1 (fun p hp => by rw [Finset.mem_singleton.mp hp, L_tc]; exact Finset.mem_singleton_self _)
    (fun g u hg => by obtain ⟨a, d, rfl⟩ := owR_pos _ hg; exact Finset.mem_singleton_self _)
    (fun p hp => by rw [Finset.mem_singleton.mp hp]; dsimp only [lv]; decide)
    (fun g u hg => by obtain ⟨a, d, rfl⟩ := owR_pos _ hg; rw [lv_recv]; decide)

end Cert.KernelIdealProof

end
-- ==== Proof.KernelIdeal.Steps.lean ====
/-
# One rule per step of the body

What device `c` holds for its peer `j` moves through five stages (`st0` … `st4`); each lemma here is one effect of the
body, at any peer, with the views and semaphores the program computes given by equations. `ow c O` is what `c` owes,
whatever it has waited on.
-/
module

public import proofs.«01_k».proof.Proof.KernelIdeal.Talk

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The cells' records -/

/-- A device's cells: its barrier cell, its send cells, its receive cells. -/
abbrev CI : Type := Unit ⊕ (Fin 8 ⊕ Dev nD)
abbrev kcell : Dev nD × CI → GSem nD τ sig
  | (c, .inl _) => barCell c
  | (c, .inr (.inl j)) => sendCell c j
  | (c, .inr (.inr d)) => recvCell c d

variable (K : Dev nD × CI → ℕ)

/-- Every cell's invariant under the names `K`, and that its round 0 is reached. -/
def records : sProp 𝕄 :=
  iprop((bigSep Finset.univ fun ck : Dev nD × CI => cellInv ER (talk m) (K ck) (kcell ck))
    ∗ bigSep Finset.univ fun ck : Dev nD × CI => reached ER (kcell ck) 0)

instance records_persistent : BI.Persistent (records (F := F) m K) := by unfold records; infer_instance

theorem inv_at (ck : Dev nD × CI) : records (F := F) m K ⊢ cellInv ER (talk m) (K ck) (kcell ck) :=
  sep_elim_left.trans (bigSep_elim (Finset.mem_univ ck))
theorem reached_at (ck : Dev nD × CI) : records (F := F) m K ⊢ reached ER (kcell ck) 0 :=
  sep_elim_right.trans (bigSep_elim (Finset.mem_univ ck))

/-- The cells' indices. -/
abbrev kBar (c : Dev nD) : Dev nD × CI := (c, Sum.inl ())
abbrev kSend (c : Dev nD) (j : Fin 8) : Dev nD × CI := (c, Sum.inr (Sum.inl j))
abbrev kRecv (c d : Dev nD) : Dev nD × CI := (c, Sum.inr (Sum.inr d))

theorem inv_bar (c : Dev nD) : records (F := F) m K ⊢ cellInv ER (talk m) (K (kBar c)) (barCell c) := inv_at m K (kBar c)
theorem inv_send (c : Dev nD) (j) : records (F := F) m K ⊢ cellInv ER (talk m) (K (kSend c j)) (sendCell c j) := inv_at m K (kSend c j)
theorem inv_recv (c d : Dev nD) : records (F := F) m K ⊢ cellInv ER (talk m) (K (kRecv c d)) (recvCell c d) := inv_at m K (kRecv c d)
theorem at_bar (c : Dev nD) : records (F := F) m K ⊢ reached ER (barCell c) 0 := reached_at m K (kBar c)
theorem at_send (c : Dev nD) (j) : records (F := F) m K ⊢ reached ER (sendCell c j) 0 := reached_at m K (kSend c j)
theorem at_recv (c d : Dev nD) : records (F := F) m K ⊢ reached ER (recvCell c d) 0 := reached_at m K (kRecv c d)

/-! ## The stages -/

/-- What `c` owes, whatever it has waited on. -/
def ow (c : Dev nD) (O : CellTallies nD τ sig Unit) : sProp 𝕄 := iprop(∃ W, owes (c : Thread nD τ) O W)

/-- Both positions of `c` for its peer `j` and the three tokens `c` pays with; -/
def lin (c : Dev nD) (j : Fin 8) : sProp 𝕄 :=
  iprop(atPos ER (sendCell c j) 0 ∅ 0 ∗ atPos ER (recvCell c (peer c j)) 0 ∅ 0
    ∗ dutyTok ER (barCell (peer c j)) 0 c ∗ dutyTok ER (sendCell c j) 0 0 ∗ dutyTok ER (recvCell (peer c j) c) 0 0)
/-- a receive credit, of a peer that is another device. -/
def cr (c : Dev nD) (j : Fin 8) : sProp 𝕄 := if j = 0 then iprop(emp) else cred (tallyAt (recvCell c (peer c j)) () N)
/-- At the start: these, with `c`'s slot for the peer and a share of `x`. -/
def st0 (c : Dev nD) (j : Fin 8) : sProp 𝕄 :=
  iprop(lin c j ∗ slotAny c (peer c j) ∗ xTok m c j.val ∗ cr c j)
/-- The peer signalled: the slot is gone with it. -/
def st1 (c : Dev nD) (j : Fin 8) : sProp 𝕄 :=
  iprop(atPos ER (sendCell c j) 0 ∅ 0 ∗ atPos ER (recvCell c (peer c j)) 0 ∅ 0
    ∗ dutyTok ER (sendCell c j) 0 0 ∗ dutyTok ER (recvCell (peer c j) c) 0 0
    ∗ xTok m c j.val ∗ cred (tallyAt (recvCell c (peer c j)) () N))
/-- The transfer to the peer started. -/
def st2 (c : Dev nD) (j : Fin 8) : sProp 𝕄 :=
  iprop(atPos ER (sendCell c j) 0 ∅ 0 ∗ atPos ER (recvCell c (peer c j)) 0 ∅ 0
    ∗ cred (tallyAt (sendCell c j) () N) ∗ cred (tallyAt (recvCell c (peer c j)) () N))
/-- The peer's rows arrived: the slot is back holding them, the receive cell closed. -/
def st3 (c : Dev nD) (j : Fin 8) : sProp 𝕄 :=
  iprop(atPos ER (sendCell c j) 0 ∅ 0 ∗ cred (tallyAt (sendCell c j) () N)
    ∗ semVal (recvCell c (peer c j)) 0 ∗ slotHas c (peer c j) (xstg m (peer c j)))
/-- The transfer's source read: the share of `x` back, the send cell closed. -/
def st4 (c : Dev nD) (j : Fin 8) : sProp 𝕄 :=
  iprop(xTok m c j.val ∗ semVal (sendCell c j) 0
    ∗ semVal (recvCell c (peer c j)) 0 ∗ slotHas c (peer c j) (xstg m (peer c j)))

/-- At the end, of any peer. -/
def st5 (c : Dev nD) (j : Fin 8) : sProp 𝕄 :=
  iprop(xTok m c j.val ∗ (semVal (sendCell c j) 0 ∗ semVal (recvCell c (peer c j)) 0) ∗ slotAny c (peer c j))

theorem st4_end (c : Dev nD) (j : Fin 8) : st4 m c j ⊢ st5 m c j := by
  unfold st4 st5 slotAny
  iintro ⟨Hx, Hs, Hr, Hsl⟩
  isplitl [Hx]; · iexact Hx
  isplitl [Hs Hr]
  · isplitl [Hs] <;> iassumption
  iexists _; iexact Hsl

/-! ## The steps -/

section Steps

variable (c : Dev nD) (j : Fin 8) (hj : j ≠ 0)

include hj

theorem step_signal {α : Type} {Q : α → sProp 𝕄} {k : PUnit → Prog (TpuEff nD τ sig (Elt F) Λ₀ .tc) α}
    (n : Dev nD) (hn : n = peer c j) (z : ℤ) (hz : z = ((1 : ℕ) : ℤ)) (l : List (Fin 8)) :
    iprop(records m K ∗ st0 m c j ∗ ow c (owB c (j :: l)))
      ⊢ iprop(((st1 m c j ∗ ow c (owB c l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS z) k) Q) := by
  subst hn; subst hz
  unfold st0 lin cr st1 ow
  rw [if_neg hj]
  iintro ⟨#HR, ⟨⟨HaS, HaR, HtB, HtS, HtR⟩, Hsl, Hx, HcR⟩, ⟨%W, HO⟩⟩ Hk
  iapply (Rounds.wp_signal 𝒱₀ ER (talk m) (c : Thread nD τ) none (dst := (peer c j : Thread nD τ)) (κ := K (kBar (peer c j)))
      (d := c) (by rw [duties_bar]; exact Finset.mem_erase.mpr ⟨(peer_ne c j hj).symm, Finset.mem_univ _⟩) rfl () (owB c l) rfl)
    $$ [HO HtB Hsl]
  · isplitr; · iapply (inv_bar m K (peer c j)); iexact HR
    isplitl [HO]; · iexact HO
    isplitl [HtB]; · iexact HtB
    isplitl [Hsl]; · rw [payload_bar]; iexact Hsl
    iapply (at_bar m K (peer c j)); iexact HR
  iintro HO
  iapply Hk
  isplitr [HO]
  · isplitl [HaS]; · iexact HaS
    isplitl [HaR]; · iexact HaR
    isplitl [HtS]; · iexact HtS
    isplitl [HtR]; · iexact HtR
    isplitl [Hx] <;> iassumption
  iexists W; iexact HO

omit hj in
/-- The two cells nobody touches close where they are. -/
theorem step_self : iprop(records m K ∗ st0 m c 0) ⊢ (|={Set.univ}=> st5 m c 0) := by
  unfold st0 lin st5
  iintro ⟨#HR, ⟨HaS, HaR, -, -, -⟩, Hsl, Hx, -⟩
  imod (Rounds.cell_close ER (talk m) (Set.mem_univ (K (kSend c 0))) (fun h => h) (R := 0)
    (fun r _ => duties_unused m c _ (not_used_send c) r)) $$ [HaS] with Hz
  · isplitr; · iapply (inv_send m K c 0); iexact HR
    iexact HaS
  imod (Rounds.cell_close ER (talk m) (Set.mem_univ (K (kRecv c (peer c 0)))) (fun h => h) (R := 0)
    (fun r _ => duties_unused m c (recvS (peer c 0)) (by rw [peer_zero]; exact not_used_recv c) r)) $$ [HaR] with Hz'
  · isplitr; · iapply (inv_recv m K c (peer c 0)); iexact HR
    iexact HaR
  imodintro
  isplitl [Hx]; · iexact Hx
  isplitl [Hz Hz']
  · isplitl [Hz] <;> iassumption
  iexact Hsl

omit hj in
theorem step_bar {α : Type} {Q : α → sProp 𝕄} {k : PUnit → Prog (TpuEff nD τ sig (Elt F) Λ₀ .tc) α}
    (z : ℤ) (hz : z = ((7 : ℕ) : ℤ)) :
    iprop(records m K ∗ levAts L lv ∗ atPos ER (barCell c) 0 ∅ 0 ∗ cred (tallyAt (barCell c) () 7) ∗ ow c (owB c []))
      ⊢ iprop(((semVal (barCell c) 0 ∗ ow c (owR c peers)
            ∗ slotAny (peer c 1) c ∗ slotAny (peer c 2) c ∗ slotAny (peer c 3) c ∗ slotAny (peer c 4) c ∗ slotAny (peer c 5) c
            ∗ slotAny (peer c 6) c ∗ slotAny (F := F) (peer c 7) c) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS z) k) Q) := by
  subst hz
  unfold ow
  iintro ⟨#HR, #Hlev, Hat, Hc, ⟨%W, HO⟩⟩ Hk
  iapply (Rounds.wp_wait_rest_token 𝒱₀ ER (talk m) (c : Thread nD τ) none (κ := K (kBar c))
      (wpE_semWait_eq 𝒱₀ (c : Thread nD τ) none Set.univ) (Set.mem_univ _) () (O := owB c []) (W := W) (R := 0) (m := 0) (T := ∅)
      (by rw [expect_bar])) $$ [Hc HO Hat]
  · isplitr; · iapply (inv_bar m K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (talk m) (Set.mem_univ (K (kBar c))) (fun h => h) (R := 0 + 1) (duties_later m (barCell c))) $$ [Hat] with HzB
  · isplitr; · iapply (inv_bar m K c); iexact HR
    iexact Hat
  iapply Hk
  isplitl [HzB]; · iexact HzB
  isplitl [HO]; · iexists _; iexact HO
  iexact Hp

theorem step_send {α : Type} {Q : α → sProp 𝕄} {k : PUnit → Prog (TpuEff nD τ sig (Elt F) Λ₀ .tc) α}
    (n : Dev nD) (hn : n = peer c j) (off : Fin 3 → ℕ) (hoff : off = ![c.val, 0, 0])
    (hinb : ∀ a, off a + S1x128x1024.size a ≤ S8x128x1024.size a) (qS qR : DmaSem sig) (hqS : qS = sendS j) (hqR : qR = recvS c)
    {hsc : (((gM.slice (Rect.unit (s := S8x128x1024) off S1x128x1024.size hinb) (fun _ => rfl)).squeeze S128x1024 squeezes_S1x128x1024_S128x1024 :
      Memref sig (Dev.tc n : Thread nD τ).2.kind .vmem S128x1024 .bf16)).view.ref.isScScratch = false}
    {hsrc : (xM : Memref sig .tc .vmem S128x1024 .bf16).view.WordExact}
    {hdst : ((gM.slice (Rect.unit (s := S8x128x1024) off S1x128x1024.size hinb) (fun _ => rfl)).squeeze S128x1024 squeezes_S1x128x1024_S128x1024).view.WordExact}
    {hsem : DmaTarget.Typed .vmem (.dma qR) (.remote (Dev.tc n : Thread nD τ)
      ((gM.slice (Rect.unit (s := S8x128x1024) off S1x128x1024.size hinb) (fun _ => rfl)).squeeze S128x1024 squeezes_S1x128x1024_S128x1024) (.dma qS) hsc)}
    (l : List (Fin 8)) :
    iprop(records m K ∗ st1 m c j ∗ slotAny (peer c j) c ∗ ow c (owR c (j :: l)))
      ⊢ iprop(((st2 c j ∗ ow c (owR c l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ)
                ((gM.slice (Rect.unit (s := S8x128x1024) off S1x128x1024.size hinb) (fun _ => rfl)).squeeze S128x1024 squeezes_S1x128x1024_S128x1024)
                (.dma qS) hsc) (.dma qR) hsrc hdst hsem) k) Q) := by
  subst hn; subst hoff; subst hqS; subst hqR
  unfold st1 st2 ow slotAny slotHas owns
  iintro ⟨#HR, ⟨HaS, HaR, HtS, HtR, Hx, HcR⟩, ⟨%X, %fd, %hfd, Hsl⟩, ⟨%W, HO⟩⟩ Hk
  unfold xTok
  iapply (Rounds.wp_send_pointsTo 𝒱₀ ER (talk m) (c : Thread nD τ) none (κ₁ := K (kSend c j)) (κ₂ := K (kRecv (peer c j) c))
      (c' := (peer c j : Thread nD τ)) (src := xM) (dst := slotM c) (sS := .dma (sendS j)) (sem := .dma (recvS c))
      (r₁ := 0) (r₂ := 0) (d₁ := 0) (d₂ := 0) (q := Transfers.shareTokN fullShare j.val) (fs := xstg m c) (fd := fd)
      (by rw [duties_dma m c _ (used_send c j hj)]; exact Finset.mem_singleton_self _)
      (by rw [duties_dma m (peer c j) _ (used_recv _ _ (peer_ne c j hj).symm)]; exact Finset.mem_singleton_self _)
      () () N rfl rfl rfl (owR c l) rfl (W := W)
      (by rw [payload_send]; exact BI.Entails.refl _)
      (by
        rw [payload_recv]; unfold slotHas owns
        iintro H
        iexists ((slotM c).view.write (Elt F) fd ((xM : Memref sig .tc .vmem S128x1024 .bf16).view.read (Elt F) (xstg m c)) Finset.univ)
        isplitr
        · ipureintro; exact View.read_write_univ _ _
        iexact H)) $$ [Hx Hsl HO HtS HtR]
  · isplitr; · iapply (inv_send m K c j); iexact HR
    isplitr; · iapply (inv_recv m K (peer c j) c); iexact HR
    isplitl [Hx]; · iexact Hx
    isplitl [Hsl]; · iexact Hsl
    isplitl [HO]; · iexact HO
    isplitl [HtS]; · iexact HtS
    isplitr; · iapply (at_send m K c j); iexact HR
    isplitl [HtR]; · iexact HtR
    iapply (at_recv m K (peer c j) c); iexact HR
  iintro ⟨HcS, HO⟩
  iapply Hk
  isplitr [HO]
  · isplitl [HaS]; · iexact HaS
    isplitl [HaR]; · iexact HaR
    isplitl [HcS] <;> iassumption
  iexists W; iexact HO

theorem step_recv {α : Type} {Q : α → sProp 𝕄} {k : PUnit → Prog (TpuEff nD τ sig (Elt F) Λ₀ .tc) α}
    (q : DmaSem sig) (hq : q = recvS (peer c j)) {sp sp' : Space} {s s' : Shape} {e e' : EltTy}
    {src : Memref sig .tc sp' s' e'} {dst : Memref sig .tc sp s e} {hsrc : src.view.WordExact} {hdst : dst.view.WordExact}
    (hcr : dst.view.dmaCredit = N) :
    iprop(records m K ∗ st2 c j ∗ ow c 0)
      ⊢ iprop(((st3 m c j ∗ ow c 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  have hu := used_recv c (peer c j) (peer_ne c j hj)
  unfold st2 st3 ow
  iintro ⟨#HR, ⟨HaS, HaR, HcS, HcR⟩, ⟨%W, HO⟩⟩ Hk
  rw [← hcr]
  iapply (Rounds.wp_wait_rest_token 𝒱₀ ER (talk m) (c : Thread nD τ) none (κ := K (kRecv c (peer c j)))
      (wpE_waitDma2_eq 𝒱₀ (c : Thread nD τ) none Set.univ) (Set.mem_univ _) () (O := 0) (W := W) (R := 0) (m := 0) (T := ∅)
      (by rw [Nat.zero_add, expect_dma m c _ hu, hcr])) $$ [HcR HO HaR]
  · isplitr; · iapply (inv_recv m K c (peer c j)); iexact HR
    isplitl [HcR]; · iexact HcR
    isplitl [HO]; · iexact HO
    isplitr; · rw [MayWait_zero]; iempintro
    iexact HaR
  iintro ⟨HO, HaR, -, Hpay⟩
  ihave Hp := (Entails.of_eq ((rest_dma m c _ hu).trans (payload_recv m c (peer c j)))) $$ Hpay
  imod (Rounds.cell_close ER (talk m) (Set.mem_univ (K (kRecv c (peer c j)))) (fun h => h) (R := 0 + 1) (duties_later m (recvCell c (peer c j)))) $$ [HaR] with Hz
  · isplitr; · iapply (inv_recv m K c (peer c j)); iexact HR
    iexact HaR
  iapply Hk
  isplitr [HO]
  · isplitl [HaS]; · iexact HaS
    isplitl [HcS]; · iexact HcS
    isplitl [Hz] <;> iassumption
  iexists _; iexact HO

theorem step_sent {α : Type} {Q : α → sProp 𝕄} {k : PUnit → Prog (TpuEff nD τ sig (Elt F) Λ₀ .tc) α}
    (q : DmaSem sig) (hq : q = sendS j) {sp sp' : Space} {s s' : Shape} {e e' : EltTy}
    {src : Memref sig .tc sp' s' e'} {dst : Memref sig .tc sp s e} {hsrc : src.view.WordExact} {hdst : dst.view.WordExact}
    (hcr : dst.view.dmaCredit = N) :
    iprop(records m K ∗ st3 m c j ∗ ow c 0)
      ⊢ iprop(((st4 m c j ∗ ow c 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  have hu := used_send c j hj
  unfold st3 st4 ow
  iintro ⟨#HR, ⟨HaS, HcS, Hz, Hsl⟩, ⟨%W, HO⟩⟩ Hk
  rw [← hcr]
  iapply (Rounds.wp_wait_rest_token 𝒱₀ ER (talk m) (c : Thread nD τ) none (κ := K (kSend c j))
      (wpE_waitDma2_eq 𝒱₀ (c : Thread nD τ) none Set.univ) (Set.mem_univ _) () (O := 0) (W := W) (R := 0) (m := 0) (T := ∅)
      (by rw [Nat.zero_add, expect_dma m c _ hu, hcr])) $$ [HcS HO HaS]
  · isplitr; · iapply (inv_send m K c j); iexact HR
    isplitl [HcS]; · iexact HcS
    isplitl [HO]; · iexact HO
    isplitr; · rw [MayWait_zero]; iempintro
    iexact HaS
  iintro ⟨HO, HaS, -, Hpay⟩
  ihave Hp := (Entails.of_eq ((rest_dma m c _ hu).trans (payload_send m c j))) $$ Hpay
  imod (Rounds.cell_close ER (talk m) (Set.mem_univ (K (kSend c j))) (fun h => h) (R := 0 + 1) (duties_later m (sendCell c j))) $$ [HaS] with Hz'
  · isplitr; · iapply (inv_send m K c j); iexact HR
    iexact HaS
  iapply Hk
  isplitr [HO]
  · isplitl [Hp]; · iexact Hp
    isplitl [Hz']; · iexact Hz'
    isplitl [Hz] <;> iassumption
  iexists _; iexact HO

end Steps

end Cert.KernelIdealProof

end
-- ==== Proof.KernelIdeal.Body.lean ====
/-
# The body

What the gather buffer, the shared `x` and the output hold while the body runs, and the body itself, one step lemma per
effect in program order.
-/
module

public import proofs.«01_k».proof.Proof.KernelIdeal.Steps
public import Idealize.ShloMosaic.Lib.Pointwise.Index
public import Idealize.ShloMosaic.Lib.Pipeline.Value
public import Idealize.ShloMosaic.Lib.Pipeline.ValueKit.Geometry

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The gather buffer by slots -/

theorem slot_set (d : Dev nD) : (slotM d).view.set = (slotR d).set :=
  (View.set_reshape _ _).trans (View.set_slice_whole cc0_scratch0 (slotR d))

theorem mem_slot (d : Dev nD) (i : S8x128x1024.Idx) : i ∈ (slotR d).set ↔ (i 0).val = d.val := by
  rw [Rect.mem_set_unit]
  constructor
  · intro h; have := h 0; simp at this; omega
  · intro h a
    have hi := (i a).isLt
    fin_cases a <;> simp_all

theorem slots_disjoint (d d' : Dev nD) (h : d ≠ d') : Disjoint (slotR d).set (slotR d').set := by
  rw [Finset.disjoint_left]
  intro i hi hi'
  rw [mem_slot] at hi hi'
  exact h (Fin.ext (hi.symm.trans hi'))

theorem slots_cover (i : S8x128x1024.Idx) : ∃ d : Dev nD, i ∈ (slotR d).set :=
  ⟨(⟨(i 0).val, (i 0).isLt⟩ : Fin 8), (mem_slot _ i).mpr rfl⟩

/-- The whole gather buffer, at some contents. -/
def scr (c : Dev nD) : sProp 𝕄 :=
  iprop(∃ f : Buf (Elt F) ((c : Thread nD τ).loc cc0_scratch0), ((c : Thread nD τ).loc cc0_scratch0) ↦{fullShare} f)

/-- Slot `d`'s elements, as elements of device `c`'s buffer. -/
def slotS (c d : Dev nD) : Finset (Idx ((c : Thread nD τ).loc cc0_scratch0)) := (slotR d).set
/-- A slot's elements, at some contents. -/
def slotPts (c d : Dev nD) : sProp 𝕄 :=
  iprop(∃ f : Buf (Elt F) ((c : Thread nD τ).loc cc0_scratch0), ((c : Thread nD τ).loc cc0_scratch0) ↦[slotS c d]{fullShare} f)

theorem slotAny_pts (c d : Dev nD) : slotAny (F := F) c d ⊢ slotPts c d := by
  unfold slotAny slotHas owns slotPts slotS
  rw [slot_set]
  iintro ⟨%X, %f, %h, H⟩
  iexists f; iexact H
theorem pts_slotAny (c d : Dev nD) : slotPts (F := F) c d ⊢ slotAny c d := by
  unfold slotAny slotHas owns slotPts slotS
  rw [slot_set]
  iintro ⟨%f, H⟩
  iexists ((slotM d).view.read (Elt F) f), f
  isplitr; · ipureintro; rfl
  iexact H

/-- Every device is a peer once. -/
def peerE (c : Dev nD) : Fin 8 ≃ Dev nD :=
  Equiv.ofBijective (peer c) (Finite.injective_iff_bijective.mp (by
    have h : ∀ (c : Dev nD) (j j' : Fin 8), peer c j = peer c j' → j = j' := by decide
    exact h c))

theorem slotPts_intro (c d : Dev nD) (f : Buf (Elt F) ((c : Thread nD τ).loc cc0_scratch0)) :
    (((c : Thread nD τ).loc cc0_scratch0) ↦[slotS c d]{fullShare} f : sProp 𝕄) ⊢ slotPts c d := by
  unfold slotPts; iintro H; iexists f; iexact H
theorem slotS_cover (c : Dev nD) : Finset.univ.biUnion (slotS c) = Finset.univ :=
  Finset.eq_univ_iff_forall.mpr fun i => by
    obtain ⟨d, hd⟩ := slots_cover i
    exact Finset.mem_biUnion.mpr ⟨d, Finset.mem_univ _, hd⟩
theorem slotS_disjoint (c : Dev nD) : ∀ d ∈ (Finset.univ : Finset (Dev nD)), ∀ d' ∈ (Finset.univ : Finset (Dev nD)), d ≠ d' → Disjoint (slotS c d) (slotS c d') :=
  fun d _ d' _ h => slots_disjoint d d' h
theorem scr_cut (c : Dev nD) (f : Buf (Elt F) ((c : Thread nD τ).loc cc0_scratch0)) :
    (((c : Thread nD τ).loc cc0_scratch0) ↦{fullShare} f : sProp 𝕄)
      ⊢ bigSep Finset.univ fun d : Dev nD => ((c : Thread nD τ).loc cc0_scratch0) ↦[slotS c d]{fullShare} f := by
  rw [← pointsTo_biUnion Finset.univ (slotS c) (slotS_disjoint c), slotS_cover]
theorem scr_pts (c : Dev nD) : scr (F := F) c ⊢ bigSep Finset.univ fun d : Dev nD => slotPts (F := F) c d := by
  unfold scr
  iintro ⟨%f, H⟩
  iapply ((scr_cut c f).trans (bigSep_mono fun d _ => slotPts_intro c d f))
  iexact H

theorem pts_scr (c : Dev nD) : (bigSep Finset.univ fun d : Dev nD => slotPts (F := F) c d) ⊢ scr (F := F) c := by
  unfold scr slotPts
  iintro H
  ihave H1 := (BI.bigSep_exists_pi Finset.univ (fun (d : Dev nD) (f : Buf (Elt F) ((c : Thread nD τ).loc cc0_scratch0)) =>
    (((c : Thread nD τ).loc cc0_scratch0) ↦[slotS c d]{fullShare} f : sProp 𝕄))) $$ H
  icases H1 with ⟨%fs, H1⟩
  ihave H2 := (pointsTo_biUnion_join Finset.univ (slotS c) fs (fs c) (slotS_disjoint c)) $$ H1
  icases H2 with ⟨%g, %hg, H2⟩
  rw [slotS_cover]
  iexists g; iexact H2

/-- The gather buffer is its eight slots, told by peers. -/
theorem scr_split (c : Dev nD) : scr (F := F) c ⊢ bigSep Finset.univ fun j : Fin 8 => slotAny (F := F) c (peer c j) :=
  ((scr_pts c).trans (bigSep_mono fun d _ => pts_slotAny c d)).trans (Entails.of_eq (bigSep_univ_equiv (peerE c) _))
theorem scr_join (c : Dev nD) : (bigSep Finset.univ fun j : Fin 8 => slotAny (F := F) c (peer c j)) ⊢ scr (F := F) c :=
  ((Entails.of_eq (bigSep_univ_equiv (peerE c) fun d => slotAny (F := F) c d).symm).trans (bigSep_mono fun d _ => slotAny_pts c d)).trans (pts_scr c)

/-! ## The output by row blocks -/

theorem out_inb (d : Dev nD) : ∀ a, (![128 * d.val, 0] : Fin 2 → Nat) a + S128x128.size a ≤ S1024x128.size a := by
  revert d; decide
/-- Row block `d` of the output. -/
abbrev outR (d : Dev nD) : Rect S1024x128 := Rect.unit (s := S1024x128) ![128 * d.val, 0] S128x128.size (out_inb d)

/-- What device `c` writes there: device `d`'s rows by its own columns, through the activation. -/
def blkv (c d : Dev nD) : FVec F S128x128 .f32 := k0_pay1 (xstg m d) (wstg m c)

/-- The row blocks `l` are written. -/
def OutOK (c : Dev nD) (l : List (Dev nD)) (f : (cc0_stg2_0 : Ref sig .tc).ty.Contents (Elt F)) : Prop :=
  ∀ d ∈ l, ∀ y : S128x128.Idx, f ((outR d).emb y) = blkv m c d y

/-- Device `c`'s output: row `i` is row `i mod 128` of block `i / 128`. -/
def outAt (c : Dev nD) : (cc0_stg2_0 : Ref sig .tc).ty.Contents (Elt F) := fun i : S1024x128.Idx =>
  blkv m c (⟨(i 0).val / 128, Nat.div_lt_of_lt_mul (i 0).isLt⟩ : Fin 8)
    (ix2 (n0 := 128) (n1 := 128) ⟨(i 0).val % 128, Nat.mod_lt _ (by decide)⟩ (i 1))

theorem outOK_store (c d : Dev nD) (l : List (Dev nD)) (f : (cc0_stg2_0 : Ref sig .tc).ty.Contents (Elt F)) (h : OutOK m c l f) :
    OutOK m c (d :: l) (((oM : Memref sig .tc .vmem S1024x128 .f32).access (outR d)).write (Elt F) f (blkv m c d) Finset.univ) := by
  intro d' hd' y
  by_cases hdd : d' = d
  · subst hdd
    exact View.write_emb_of_mem (v := (oM : Memref sig .tc .vmem S1024x128 .f32).access (outR d')) f (blkv m c d') (Finset.mem_univ y)
  · rw [← h d' ((List.mem_cons.mp hd').resolve_left hdd) y]
    refine View.write_of_not_mem _ _ _ ?_
    intro hmem
    have hm : (outR d').emb y ∈ (outR d).set := by
      rw [← View.set_slice_whole cc0_stg2_0 (outR d)]; exact hmem
    have h0 := (Rect.mem_set_unit.mp hm) 0
    have e0 : ((outR d').emb y 0).val = 128 * d'.val + (y 0).val := ValueKit.rect_emb_unit_val _ _ _ _ _
    have hy : (y 0).val < 128 := (y 0).isLt
    rw [e0] at h0
    simp at h0
    exact hdd (Fin.ext (by omega))

theorem outOK_all (c : Dev nD) (l : List (Dev nD)) (hl : ∀ d, d ∈ l) (f : (cc0_stg2_0 : Ref sig .tc).ty.Contents (Elt F)) (h : OutOK m c l f) :
    f = outAt m c := by
  funext i
  have hi := h (⟨(i 0).val / 128, Nat.div_lt_of_lt_mul (i 0).isLt⟩ : Fin 8) (hl _)
    (ix2 (n0 := 128) (n1 := 128) ⟨(i 0).val % 128, Nat.mod_lt _ (by decide)⟩ (i 1))
  refine Eq.trans (congrArg f ?_) hi
  funext a
  refine Fin.ext ?_
  rw [ValueKit.rect_emb_unit_val]
  fin_cases a
  · show (i 0).val = 128 * ((i 0).val / 128) + (i 0).val % 128
    omega
  · show (i 1).val = 0 + (i 1).val
    omega

/-! ## The computing steps -/

theorem hz2 : (![0, 0] : Fin 2 → Nat) = fun _ => 0 := funext fun a => by fin_cases a <;> rfl
theorem read_x (f : (cc0_stg0_0 : Ref sig .tc).ty.Contents (Elt F)) :
    (xM : Memref sig .tc .vmem S128x1024 .bf16).view.readAt (Elt F)
      (Rect.unit (s := S128x1024) ![0, 0] S128x1024.size inb_S128x1024_S128x1024_0_0).toLoadRect f = f :=
  Memref.readAt_unit_zero (Elt F) cc0_stg0_0 hz2 _ f
theorem read_w (f : (cc0_stg1_0 : Ref sig .tc).ty.Contents (Elt F)) :
    (wM : Memref sig .tc .vmem S1024x128 .bf16).view.readAt (Elt F)
      (Rect.unit (s := S1024x128) ![0, 0] S1024x128.size inb_S1024x128_S1024x128_0_0).toLoadRect f = f :=
  Memref.readAt_unit_zero (Elt F) cc0_stg1_0 hz2 _ f

/-- A slot loaded and its leading axis dropped: what the slot holds. -/
theorem read_slot (d : Dev nD) (f : (cc0_scratch0 : Ref sig .tc).ty.Contents (Elt F)) :
    shapeCast S128x1024 (((gM : Memref sig .tc .vmem S8x128x1024 .bf16).access (slotR d)).read (Elt F) f : Vec F S1x128x1024 .bf16)
      shapeCasts_S1x128x1024_S128x1024 = (slotM d).view.read (Elt F) f := rfl

/-- The kept share of the staged `x`. -/
def xKept (c : Dev nD) : sProp 𝕄 := ((c : Thread nD τ).loc cc0_stg0_0) ↦{Transfers.shareDrop fullShare 8} xstg m c
def wHeld (c : Dev nD) : sProp 𝕄 := ((c : Thread nD τ).loc cc0_stg1_0) ↦{fullShare} wstg m c
/-- The output, with the row blocks `l` written. -/
def outHeld (c : Dev nD) (l : List (Dev nD)) : sProp 𝕄 :=
  iprop(∃ f : Buf (Elt F) ((c : Thread nD τ).loc cc0_stg2_0), ⌜OutOK m c l f⌝ ∗ (((c : Thread nD τ).loc cc0_stg2_0) ↦{fullShare} f))

/-- Device `c`'s own row block. -/
theorem step_own (c : Dev nD) {α : Type} {Q : α → sProp 𝕄} {k : PUnit → Prog (TpuEff nD τ sig (Elt F) Λ₀ .tc) α}
    (off : Fin 2 → ℕ) (hoff : off = ![128 * c.val, 0]) (hinb : ∀ a, off a + S128x128.size a ≤ S1024x128.size a)
    {hl₁ : (xM : Memref sig .tc .vmem S128x1024 .bf16).view.LoadsAt (Rect.unit (s := S128x1024) ![0, 0] S128x1024.size inb_S128x1024_S128x1024_0_0).toLoadRect}
    {hl₂ : (wM : Memref sig .tc .vmem S1024x128 .bf16).view.LoadsAt (Rect.unit (s := S1024x128) ![0, 0] S1024x128.size inb_S1024x128_S1024x128_0_0).toLoadRect}
    {hl₃ : (oM : Memref sig .tc .vmem S1024x128 .f32).view.LoadsAt (Rect.unit (s := S1024x128) off S128x128.size hinb).toLoadRect}
    {hx : ((oM : Memref sig .tc .vmem S1024x128 .f32).access (Rect.unit (s := S1024x128) off S128x128.size hinb)).Stores Finset.univ}
    {hm : (Finset.univ : Finset (Rect.unit (s := S1024x128) off S128x128.size hinb).shape.Idx) = Finset.univ ∨ ∀ a, (Rect.unit (s := S1024x128) off S128x128.size hinb).stride a = 1}
    (l : List (Dev nD)) :
    iprop(xKept m c ∗ wHeld m c ∗ outHeld m c l)
      ⊢ iprop(((xKept m c ∗ wHeld m c ∗ outHeld m c (c :: l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.load xM (Rect.unit (s := S128x1024) ![0, 0] S128x1024.size inb_S128x1024_S128x1024_0_0).toLoadRect hl₁) fun v =>
                .op (.load wM (Rect.unit (s := S1024x128) ![0, 0] S1024x128.size inb_S1024x128_S1024x128_0_0).toLoadRect hl₂) fun w =>
                .op (.load oM (Rect.unit (s := S1024x128) off S128x128.size hinb).toLoadRect hl₃) fun _ =>
                .op (.store oM (Rect.unit (s := S1024x128) off S128x128.size hinb) (k0_pay1 v w) Finset.univ hx hm) k) Q) := by
  subst hoff
  unfold xKept wHeld outHeld
  iintro ⟨Hx, Hw, ⟨%f, %hf, Ho⟩⟩ Hk
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w]
  iapply (wp_load 𝒱₀ (c : Thread nD τ) none Set.univ (m := oM) (Finset.subset_univ _)) $$ Ho; iintro Ho
  iapply (wp_store 𝒱₀ (c : Thread nD τ) none Set.univ (m := oM) (r := outR c) (Mk := Finset.univ) (Finset.subset_univ _)) $$ Ho; iintro Ho
  iapply Hk
  isplitl [Hx]; · iexact Hx
  isplitl [Hw]; · iexact Hw
  iexists _
  isplitr; · ipureintro; exact outOK_store m c c l f hf
  iexact Ho

/-- The row block of device `d`, from `c`'s slot for it. -/
theorem step_block (c d : Dev nD) {α : Type} {Q : α → sProp 𝕄} {k : PUnit → Prog (TpuEff nD τ sig (Elt F) Λ₀ .tc) α}
    (pay : Vec F S1x128x1024 .bf16 → Vec F S1024x128 .bf16 → FVec F S128x128 .f32)
    (hpay : ∀ Y w, pay Y w = k0_pay1 (shapeCast S128x1024 Y shapeCasts_S1x128x1024_S128x1024) w)
    (off' : Fin 3 → ℕ) (hoff' : off' = ![d.val, 0, 0]) (hinb' : ∀ a, off' a + S1x128x1024.size a ≤ S8x128x1024.size a)
    (off : Fin 2 → ℕ) (hoff : off = ![128 * d.val, 0]) (hinb : ∀ a, off a + S128x128.size a ≤ S1024x128.size a)
    {hl₁ : (gM : Memref sig .tc .vmem S8x128x1024 .bf16).view.LoadsAt (Rect.unit (s := S8x128x1024) off' S1x128x1024.size hinb').toLoadRect}
    {hl₂ : (wM : Memref sig .tc .vmem S1024x128 .bf16).view.LoadsAt (Rect.unit (s := S1024x128) ![0, 0] S1024x128.size inb_S1024x128_S1024x128_0_0).toLoadRect}
    {hl₃ : (oM : Memref sig .tc .vmem S1024x128 .f32).view.LoadsAt (Rect.unit (s := S1024x128) off S128x128.size hinb).toLoadRect}
    {hx : ((oM : Memref sig .tc .vmem S1024x128 .f32).access (Rect.unit (s := S1024x128) off S128x128.size hinb)).Stores Finset.univ}
    {hm : (Finset.univ : Finset (Rect.unit (s := S1024x128) off S128x128.size hinb).shape.Idx) = Finset.univ ∨ ∀ a, (Rect.unit (s := S1024x128) off S128x128.size hinb).stride a = 1}
    (l : List (Dev nD)) :
    iprop(slotHas c d (xstg m d) ∗ wHeld m c ∗ outHeld m c l)
      ⊢ iprop(((slotHas c d (xstg m d) ∗ wHeld m c ∗ outHeld m c (d :: l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.load gM (Rect.unit (s := S8x128x1024) off' S1x128x1024.size hinb').toLoadRect hl₁) fun v =>
                .op (.load wM (Rect.unit (s := S1024x128) ![0, 0] S1024x128.size inb_S1024x128_S1024x128_0_0).toLoadRect hl₂) fun w =>
                .op (.load oM (Rect.unit (s := S1024x128) off S128x128.size hinb).toLoadRect hl₃) fun _ =>
                .op (.store oM (Rect.unit (s := S1024x128) off S128x128.size hinb) (pay v w) Finset.univ hx hm) k) Q) := by
  subst hoff; subst hoff'
  unfold slotHas owns wHeld outHeld
  iintro ⟨⟨%g, %hg, Hs⟩, Hw, ⟨%f, %hf, Ho⟩⟩ Hk
  iapply (wp_load_rect 𝒱₀ (c : Thread nD τ) none Set.univ (m := gM) (r := slotR d)
    (S := (slotM d).view.set) (by rw [slot_set]; exact le_of_eq (View.set_slice_whole cc0_scratch0 (slotR d)))) $$ Hs; iintro Hs
  iapply (wp_load 𝒱₀ (c : Thread nD τ) none Set.univ (m := wM) (Finset.subset_univ _)) $$ Hw; iintro Hw
  rw [read_w]
  iapply (wp_load 𝒱₀ (c : Thread nD τ) none Set.univ (m := oM) (Finset.subset_univ _)) $$ Ho; iintro Ho
  iapply (wp_store 𝒱₀ (c : Thread nD τ) none Set.univ (m := oM) (r := outR d) (Mk := Finset.univ) (Finset.subset_univ _)) $$ Ho; iintro Ho
  iapply Hk
  isplitl [Hs]
  · iexists g; isplitr; · ipureintro; exact hg
    iexact Hs
  isplitl [Hw]; · iexact Hw
  iexists _
  isplitr
  · ipureintro
    have e := outOK_store m c d l f hf
    unfold blkv at e
    rw [← hg, ← read_slot d g, ← hpay] at e
    exact e
  iexact Ho

end Cert.KernelIdealProof

end
-- ==== Proof.KernelIdeal.Deal.lean ====
/-
# What a launch hands the body

The pipeline's data, the talk's ghost state dealt to the devices, and the credits.
-/
module

public import proofs.«01_k».proof.Proof.KernelIdeal.Body

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- What device `c` starts from: the records, its barrier position, its positions and tokens for each peer; -/
def ghost (K : Dev nD × CI → ℕ) (c : Dev nD) : sProp 𝕄 :=
  iprop(records m K ∗ atPos ER (barCell c) 0 ∅ 0 ∗ bigSep Finset.univ fun j : Fin 8 => lin (F := F) c j)
/-- that at some names, its credits and the levels. -/
def start (c : Dev nD) : sProp 𝕄 :=
  iprop((∃ K, ghost m K c) ∗ cred (tallyAt (barCell c) () 7) ∗ (bigSep Finset.univ fun j : Fin 8 => cr (F := F) c j) ∗ levAts L lv)

def Φ₀ (c : Dev nD) : sProp 𝕄 := iprop(start m c ∗ scr c)
/-- After the point: the gather buffer and every semaphore at zero. -/
def Φ₁ (c : Dev nD) : sProp 𝕄 :=
  iprop(scr (F := F) c ∗ (bigSep Finset.univ fun j : Fin 8 => iprop(semVal (sendCell c j) 0 ∗ semVal (recvCell c (peer c j)) 0)) ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## Cells and tokens -/

/-- The kernel's own semaphores: eight send, eight receive. -/
def osem (i : Fin 16) : SemLoc sig := .dma (Fin.mk (3 + i.val) (by show _ < 19; omega))
theorem ownSemFacts : Pipeline.OwnSemFacts cfg0.spec osem := by decide

theorem send_inj {j j' : Fin 8} (h : sendS j = sendS j') : j = j' := by
  have := congrArg Fin.val h; rw [sendS_val, sendS_val] at this; exact Fin.ext (by omega)
theorem recv_inj {d d' : Dev nD} (h : recvS d = recvS d') : d = d' := by
  have := congrArg Fin.val h; rw [recvS_val, recvS_val] at this; exact Fin.ext (by omega)
theorem send_ne_recv (j : Fin 8) (d : Dev nD) : sendS j ≠ recvS d := fun h => by
  have := congrArg Fin.val h; rw [sendS_val, recvS_val] at this; omega

theorem kcell_injective : Function.Injective kcell := by
  rintro ⟨c, k⟩ ⟨c', k'⟩ h
  have h1 : c = c' := by
    have := congrArg (fun g : GSem nD τ sig => g.1.1) h
    rcases k with _ | _ | _ <;> rcases k' with _ | _ | _ <;> exact this
  subst h1
  have h2 := congrArg Prod.snd h
  rcases k with _ | j | d <;> rcases k' with _ | j' | d'
  · rfl
  · cases h2
  · cases h2
  · cases h2
  · rw [send_inj (SemLoc.dma.inj h2)]
  · exact absurd (SemLoc.dma.inj h2) (send_ne_recv j d')
  · cases h2
  · exact absurd (SemLoc.dma.inj h2).symm (send_ne_recv j' d)
  · rw [recv_inj (SemLoc.dma.inj h2)]
def talkCells : Finset (GSem nD τ sig) := Finset.univ.map ⟨kcell, kcell_injective⟩

/-- A device's own cells' tokens: its barrier's from each device, each send cell's, each receive cell's. -/
abbrev TI : Type := Dev nD ⊕ (Fin 8 ⊕ Dev nD)
abbrev tokOf : Dev nD × TI → GSem nD τ sig × ℕ × Dev nD
  | (c, .inl d) => (barCell c, 0, d)
  | (c, .inr (.inl j)) => (sendCell c j, 0, 0)
  | (c, .inr (.inr d)) => (recvCell c d, 0, 0)
theorem tokOf_injective : Function.Injective tokOf := by
  rintro ⟨c, k⟩ ⟨c', k'⟩ h
  have h1 : c = c' := by
    have := congrArg (fun x : GSem nD τ sig × ℕ × Dev nD => x.1.1.1) h
    rcases k with _ | _ | _ <;> rcases k' with _ | _ | _ <;> exact this
  subst h1
  have h2 := congrArg (fun x : GSem nD τ sig × ℕ × Dev nD => x.1.2) h
  have h3 := congrArg (fun x : GSem nD τ sig × ℕ × Dev nD => x.2.2) h
  rcases k with d | j | d <;> rcases k' with d' | j' | d'
  · cases h3; rfl
  · cases h2
  · cases h2
  · cases h2
  · rw [send_inj (SemLoc.dma.inj h2)]
  · exact absurd (SemLoc.dma.inj h2) (send_ne_recv j d')
  · cases h2
  · exact absurd (SemLoc.dma.inj h2).symm (send_ne_recv j' d)
  · rw [recv_inj (SemLoc.dma.inj h2)]
def talkToks : Finset (GSem nD τ sig × ℕ × Dev nD) := Finset.univ.map ⟨tokOf, tokOf_injective⟩

def u₀ : UU :=
  (initOf (Pipeline.cells cfgs cellOf_inj) (Pipeline.launchToks cfgs cellOf_inj), initOf talkCells talkToks)

/-- The tokens of device `c`'s own cells, -/
def toks (c : Dev nD) : sProp 𝕄 :=
  bigSep Finset.univ fun k : TI => dutyTok ER (tokOf (c, k)).1 (tokOf (c, k)).2.1 (tokOf (c, k)).2.2
/-- its positions, -/
def poss (c : Dev nD) : sProp 𝕄 := bigSep Finset.univ fun k : CI => atPos ER (kcell (c, k)) 0 ∅ 0
/-- and what the launch deals it. -/
def G (c : Dev nD) : sProp 𝕄 :=
  iprop((bigSep Finset.univ fun k : CI => roundState ER (talk m) (kcell (c, k)) 0)
    ∗ (poss (F := F) c ∗ bigSep Finset.univ fun k : CI => reached ER (kcell (c, k)) 0) ∗ toks c)
/-- What the launch's global step makes of it. -/
def G' (c : Dev nD) : sProp 𝕄 := iprop(∃ K, ghost m K c)

theorem fund_talk : BI.own (ER (initOf talkCells talkToks)) ⊢ (|==> bigSep Finset.univ (G m) : sProp 𝕄) := by
  have hX (Φ : GSem nD τ sig → sProp 𝕄) : bigSep talkCells Φ = bigSep Finset.univ fun c : Dev nD => bigSep Finset.univ fun k : CI => Φ (kcell (c, k)) := by
    unfold talkCells; rw [bigSep_map, bigSep_univ_prod]; rfl
  have hT : bigSep talkToks (fun x => (dutyTok ER x.1 x.2.1 x.2.2 : sProp 𝕄)) = bigSep Finset.univ fun c : Dev nD => toks c := by
    unfold talkToks; rw [bigSep_map, bigSep_univ_prod]; rfl
  iintro HX
  imod (Rounds.fund ER (talk m) talkCells talkToks) $$ HX with ⟨Hst, Hr, Hat, Htok⟩
  imodintro
  ihave Hst' := (Entails.of_eq (hX fun g => roundState ER (talk m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G poss; simp only [bigSep_sep']
  isplitl [Hst']; · iexact Hst'
  isplitl [Hat' Hr']
  · isplitl [Hat'] <;> iassumption
  iexact Htok'

/-- A device's own semaphores: its send cells and its receive cells; -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 8 => semVal (sendCell c j) 0) ∗ bigSep Finset.univ fun d : Dev nD => semVal (recvCell c d) 0) := by
  unfold Pipeline.ownSems0
  rw [bigSep_univ_equiv (finSumFinEquiv : Fin 8 ⊕ Fin 8 ≃ Fin 16), bigSep_univ_sum]
  rfl
/-- the barrier semaphore the one outside the launch. -/
theorem unscopedSems0_eq (c : Dev nD) : (unscopedSems0 c : sProp 𝕄) = semVal (barCell c) 0 := by
  unfold unscopedSems0; rw [BI.bigSep_eq_bigSepL_of_eq [SemLoc.reg barS] (by decide) (by decide)]; rfl

/-- Over a device's cells: the barrier cell, the send cells, the receive cells. -/
theorem bigSep_CI (Φ : CI → sProp 𝕄) : bigSep Finset.univ Φ
    = iprop(Φ (.inl ()) ∗ (bigSep Finset.univ fun j : Fin 8 => Φ (.inr (.inl j))) ∗ bigSep Finset.univ fun d : Dev nD => Φ (.inr (.inr d))) := by
  rw [bigSep_univ_sum, bigSep_univ_sum, BI.bigSep_eq_bigSepL_of_eq [()] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_CI]
  iintro ⟨⟨HS, HV⟩, HB⟩
  isplitl [HB]; · iexact HB
  isplitl [HS] <;> iassumption

/-- Device `c`'s cells, allocated. -/
def made (c : Dev nD) : sProp 𝕄 :=
  iprop((bigSep Finset.univ fun k : CI => iprop(∃ κ : ℕ, cellInv ER (talk m) κ (kcell (c, k))))
    ∗ (poss (F := F) c ∗ bigSep Finset.univ fun k : CI => reached ER (kcell (c, k)) 0) ∗ toks c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> made m c := by
  unfold G made
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (talk m) (kcell (c, k)) 0)
      ⊢ (|={Set.univ}=> bigSep Finset.univ fun k : CI => iprop(∃ κ : ℕ, cellInv ER (talk m) κ (kcell (c, k))) : sProp 𝕄) from by
        rw [← bigSep_sep']
        exact (bigSep_mono fun k _ => (Rounds.body_intro ER (talk m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing -/

/-- What one device keeps for all devices, dealt around: device `d` gets, from each peer, what that peer keeps for `d`. -/
theorem around (Φ : Dev nD → Dev nD → sProp 𝕄) :
    (bigSep Finset.univ fun c : Dev nD => bigSep Finset.univ fun d : Dev nD => Φ c d)
      = bigSep Finset.univ fun d : Dev nD => bigSep Finset.univ fun j : Fin 8 => Φ (peer d j) d := by
  rw [← bigSep_univ_prod (fun cd : Dev nD × Dev nD => Φ cd.1 cd.2), bigSep_univ_equiv (Equiv.prodComm (Dev nD) (Dev nD)), bigSep_univ_prod]
  exact bigSep_congr fun d _ => bigSep_univ_equiv (peerE d) fun c => Φ c d

/-- The tokens a device pays with. -/
def payToks (c : Dev nD) : sProp 𝕄 :=
  iprop((bigSep Finset.univ fun j : Fin 8 => dutyTok ER (barCell (peer c j)) 0 c)
    ∗ (bigSep Finset.univ fun j : Fin 8 => dutyTok ER (sendCell c j) 0 0) ∗ bigSep Finset.univ fun j : Fin 8 => dutyTok ER (recvCell (peer c j) c) 0 0)

theorem toks_around : (bigSep Finset.univ fun c : Dev nD => (toks c : sProp 𝕄)) = bigSep Finset.univ fun c : Dev nD => payToks c := by
  have h (c : Dev nD) : (toks c : sProp 𝕄) = iprop((bigSep Finset.univ fun d : Dev nD => dutyTok ER (barCell c) 0 d)
      ∗ (bigSep Finset.univ fun j : Fin 8 => dutyTok ER (sendCell c j) 0 0) ∗ bigSep Finset.univ fun d : Dev nD => dutyTok ER (recvCell c d) 0 0) := by
    unfold toks; rw [bigSep_univ_sum, bigSep_univ_sum]; rfl
  rw [bigSep_congr fun c _ => h c]
  unfold payToks
  rw [bigSep_sep', bigSep_sep', bigSep_sep', bigSep_sep', around fun c d => dutyTok ER (barCell c) 0 d,
    around fun c d => dutyTok ER (recvCell c d) 0 0]

theorem lins_intro (c : Dev nD) : iprop(poss (F := F) c ∗ payToks c)
    ⊢ iprop(atPos ER (barCell c) 0 ∅ 0 ∗ bigSep Finset.univ fun j : Fin 8 => lin (F := F) c j) := by
  unfold poss payToks lin
  rw [bigSep_CI, bigSep_univ_equiv (peerE c) fun d : Dev nD => (atPos ER (kcell (c, .inr (.inr d))) 0 ∅ 0 : sProp 𝕄),
    bigSep_sep', bigSep_sep', bigSep_sep', bigSep_sep']
  iintro ⟨⟨HB, HS, HR⟩, H1, H2, H3⟩
  isplitl [HB]; · iexact HB
  isplitl [HS]; · iexact HS
  isplitl [HR]; · iexact HR
  isplitl [H1]; · iexact H1
  isplitl [H2] <;> iassumption

theorem ghost_intro (K : Dev nD × CI → ℕ) (c : Dev nD) : iprop(records m K ∗ (poss (F := F) c ∗ payToks c)) ⊢ G' m c := by
  unfold G' ghost
  iintro ⟨HR, H⟩
  iexists K
  isplitl [HR]; · iexact HR
  iapply (lins_intro (F := F) c); iexact H

theorem each_with {R : sProp 𝕄} [BI.Persistent R] {Φ Ψ : Dev nD → sProp 𝕄} (h : ∀ i, iprop(R ∗ Φ i) ⊢ Ψ i) :
    iprop(R ∗ bigSep Finset.univ Φ) ⊢ bigSep Finset.univ Ψ :=
  (sep_mono_left (BI.bigSep_of_persistent Finset.univ R)).trans (by rw [← bigSep_sep']; exact bigSep_mono fun i _ => h i)

theorem regroup : (bigSep Finset.univ fun c : Dev nD => made m c) ⊢ bigSep Finset.univ (G' m) := by
  unfold made
  rw [bigSep_sep', bigSep_sep', bigSep_sep', ← bigSep_univ_prod (fun ck : Dev nD × CI => iprop(∃ κ : ℕ, cellInv ER (talk m) κ (kcell ck))),
    ← bigSep_univ_prod (fun ck : Dev nD × CI => (reached ER (kcell ck) 0 : sProp 𝕄)), toks_around]
  iintro ⟨HI, ⟨Hat, #HR⟩, Htok⟩
  ihave HK := (BI.bigSep_exists_pi Finset.univ (fun (ck : Dev nD × CI) (κ : ℕ) => (cellInv ER (talk m) κ (kcell ck) : sProp 𝕄))) $$ HI
  icases HK with ⟨%K, #HI⟩
  iapply (each_with (R := records m K) (Φ := fun c => iprop(poss (F := F) c ∗ payToks c)) (ghost_intro m K))
  isplitr
  · unfold records; isplitl; · iexact HI
    iexact HR
  rw [bigSep_sep']
  isplitl [Hat] <;> iassumption

/-- All devices' semaphores and ghost state at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem bar_ne_recv (a c d : Dev nD) : barCell a ≠ recvCell c d := fun h => by cases congrArg Prod.snd h
theorem bar_iff {a b : Dev nD} : barCell a = barCell b ↔ a = b :=
  ⟨fun h => congrArg (fun g : GSem nD τ sig => g.1.1) h, fun h => h ▸ rfl⟩
theorem recv_iff {a b c d : Dev nD} : recvCell a c = recvCell b d ↔ a = b ∧ c = d :=
  ⟨fun h => ⟨congrArg (fun g : GSem nD τ sig => g.1.1) h, recv_inj (SemLoc.dma.inj (congrArg Prod.snd h))⟩, fun h => by rw [h.1, h.2]⟩

theorem owR_bar (d c : Dev nD) : ∀ l, owR d l (barCell c) () = 0
  | [] => rfl
  | j :: l => by
    rw [owR, Pi.add_apply, Finsupp.add_apply, owR_bar d c l, tallyAt_apply, if_neg fun h => bar_ne_recv _ _ _ h.1]
theorem owB_bar (d c : Dev nD) : ∀ l, owB d l (barCell c) () = (l.filter fun j => peer d j = c).length
  | [] => owR_bar d c peers
  | j :: l => by
    rw [owB, Pi.add_apply, Finsupp.add_apply, owB_bar d c l, tallyAt_apply]
    by_cases h : peer d j = c
    · rw [if_pos ⟨by rw [h], rfl⟩, List.filter_cons_of_pos (by simpa using h)]; rfl
    · rw [if_neg fun h' => h (bar_iff.mp h'.1).symm, List.filter_cons_of_neg (by simpa using h), Nat.add_zero]
theorem owR_recv (d c e : Dev nD) : ∀ l, owR d l (recvCell c e) () = N * (l.filter fun j => peer d j = c ∧ d = e).length
  | [] => rfl
  | j :: l => by
    rw [owR, Pi.add_apply, Finsupp.add_apply, owR_recv d c e l, tallyAt_apply]
    by_cases h : peer d j = c ∧ d = e
    · rw [if_pos ⟨recv_iff.mpr ⟨h.1.symm, h.2.symm⟩, rfl⟩, List.filter_cons_of_pos (by simpa using h), List.length_cons, Nat.mul_succ]
    · rw [if_neg fun h' => h ⟨(recv_iff.mp h'.1).1.symm, (recv_iff.mp h'.1).2.symm⟩, List.filter_cons_of_neg (by simpa using h), Nat.add_zero]
theorem owB_recv (d c e : Dev nD) : ∀ l, owB d l (recvCell c e) () = owR d peers (recvCell c e) ()
  | [] => rfl
  | j :: l => by
    rw [owB, Pi.add_apply, Finsupp.add_apply, owB_recv d c e l, tallyAt_apply, if_neg fun h => bar_ne_recv _ _ _ h.1.symm, Nat.add_zero]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owB_bar d c peers]
  revert c; decide

theorem launch_recv (c : Dev nD) (j : Fin 8) (hj : j ≠ 0) :
    tallyOn (recvCell c (peer c j)) (launchCredit (Pipeline.owing O₀) 0 (recvCell c (peer c j)))
      = (tallyAt (recvCell c (peer c j)) () N : CellTallies nD τ sig Unit) := by
  unfold tallyAt; refine congrArg _ (Finsupp.ext fun u => ?_); cases u
  rw [Pipeline.launchCredit_owing, Finsupp.single_eq_same,
    Finset.sum_congr rfl fun d _ => (owB_recv d c (peer c j) peers).trans (owR_recv d c (peer c j) peers), ← Finset.mul_sum]
  have h : ∀ (c : Dev nD) (j : Fin 8), j ≠ 0 → (∑ d : Dev nD, (peers.filter fun i => peer d i = c ∧ d = peer c j).length) = 1 := by decide
  rw [h c j hj, Nat.mul_one]

/-- The receive semaphores of `c`'s peers, injectively. -/
def recvEmb (c : Dev nD) : Fin 8 ↪ SemLoc sig :=
  ⟨fun j => .dma (recvS (peer c j)), fun _ _ h => (peerE c).injective (recv_inj (SemLoc.dma.inj h))⟩

theorem creds (c : Dev nD) :
    (Pipeline.launchCred O₀ c : sProp 𝕄) ⊢ iprop(cred (tallyAt (barCell c) () 7) ∗ bigSep Finset.univ fun j : Fin 8 => cr (F := F) c j) := by
  unfold Pipeline.launchCred
  rw [bigSep_univ_at _ (SemLoc.reg barS), launch_bar]
  refine sep_mono_right ?_
  have hsub : (Finset.univ.erase (0 : Fin 8)).map (recvEmb c) ⊆ Finset.univ.erase (SemLoc.reg barS) := fun s hs => by
    obtain ⟨j, -, rfl⟩ := Finset.mem_map.mp hs
    exact Finset.mem_erase.mpr ⟨nofun, Finset.mem_univ _⟩
  refine (bigSep_subset hsub).trans ?_
  rw [bigSep_map, bigSep_univ_at (fun j : Fin 8 => cr (F := F) c j) 0, show cr (F := F) c 0 = iprop(emp) from if_pos rfl]
  refine BI.Entails.trans ?_ (Entails.of_eq (BI.equiv_iff.mp BI.emp_sep).symm)
  refine bigSep_mono fun j hj => ?_
  have hj' : j ≠ 0 := (Finset.mem_erase.mp hj).1
  rw [show cr (F := F) c j = cred (tallyAt (recvCell c (peer c j)) () N) from if_neg hj', ← launch_recv c j hj']
  exact Entails.refl _

end Cert.KernelIdealProof

end
-- ==== Proof.KernelIdeal.Point.lean ====
/-
# The body at the one grid point

The body on device `c`, for any `c`: its effects in program order, each by its step lemma.
-/
module

public import proofs.«01_k».proof.Proof.KernelIdeal.Body

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CI → ℕ)

/-! ## The offsets of a peer's steps -/

section Offs
variable (c : Dev nD) (v : BitVec 32) (j : Fin 8) (r : Fin 7) (hv : v = BitVec.ofNat 32 (1 + r.val)) (hj : j = r.succ)
include hv hj
theorem off4 : k0_off4 c v = ![(peer c j).val] := by
  subst hv hj; rw [k0_off4_eq, Nat.add_assoc, ← Fin.val_succ]; rfl
theorem off6 : k0_off6 c v = ![(peer c j).val, 0, 0] := by
  subst hv hj; rw [k0_off6_eq, Nat.add_assoc, ← Fin.val_succ]; rfl
theorem off7 : k0_off7 c v = ![128 * (peer c j).val, 0] := by
  subst hv hj; rw [k0_off7_eq, Nat.add_assoc, ← Fin.val_succ]; rfl
end Offs

/-! ## Every block's payload is the first's -/

section Pays
variable (Y : Vec F S1x128x1024 .bf16) (w : Vec F S1024x128 .bf16)
theorem pay2 : k0_pay2 Y w = k0_pay1 (shapeCast S128x1024 Y shapeCasts_S1x128x1024_S128x1024) w := by
  unfold k0_pay2 k0_pay1; simp only [shapeCast_self]
theorem pay3 : k0_pay3 Y w = k0_pay1 (shapeCast S128x1024 Y shapeCasts_S1x128x1024_S128x1024) w := pay2 Y w
theorem pay4 : k0_pay4 Y w = k0_pay1 (shapeCast S128x1024 Y shapeCasts_S1x128x1024_S128x1024) w := pay2 Y w
theorem pay5 : k0_pay5 Y w = k0_pay1 (shapeCast S128x1024 Y shapeCasts_S1x128x1024_S128x1024) w := pay2 Y w
theorem pay6 : k0_pay6 Y w = k0_pay1 (shapeCast S128x1024 Y shapeCasts_S1x128x1024_S128x1024) w := pay2 Y w
theorem pay8 : k0_pay8 (k0_pay7 Y) w = k0_pay1 (shapeCast S128x1024 Y shapeCasts_S1x128x1024_S128x1024) w := pay2 Y w
theorem pay9 : k0_pay9 Y w = k0_pay1 (shapeCast S128x1024 Y shapeCasts_S1x128x1024_S128x1024) w := pay2 Y w
end Pays

/-- A peer's rows awaited and multiplied. -/
theorem step_peer (c : Dev nD) (j : Fin 8) (hj : j ≠ 0) {α : Type} {Q : α → sProp 𝕄} {k : PUnit → Prog (TpuEff nD τ sig (Elt F) Λ₀ .tc) α}
    (pay : Vec F S1x128x1024 .bf16 → Vec F S1024x128 .bf16 → FVec F S128x128 .f32)
    (hpay : ∀ Y w, pay Y w = k0_pay1 (shapeCast S128x1024 Y shapeCasts_S1x128x1024_S128x1024) w)
    (q : DmaSem sig) (hq : q = recvS (peer c j)) {sp sp' : Space} {s s' : Shape} {e e' : EltTy}
    {src : Memref sig .tc sp' s' e'} {dst : Memref sig .tc sp s e} {hsrc : src.view.WordExact} {hdst : dst.view.WordExact}
    (hcr : dst.view.dmaCredit = N)
    (off' : Fin 3 → ℕ) (hoff' : off' = ![(peer c j).val, 0, 0]) (hinb' : ∀ a, off' a + S1x128x1024.size a ≤ S8x128x1024.size a)
    (off : Fin 2 → ℕ) (hoff : off = ![128 * (peer c j).val, 0]) (hinb : ∀ a, off a + S128x128.size a ≤ S1024x128.size a)
    {hl₁ : (gM : Memref sig .tc .vmem S8x128x1024 .bf16).view.LoadsAt (Rect.unit (s := S8x128x1024) off' S1x128x1024.size hinb').toLoadRect}
    {hl₂ : (wM : Memref sig .tc .vmem S1024x128 .bf16).view.LoadsAt (Rect.unit (s := S1024x128) ![0, 0] S1024x128.size inb_S1024x128_S1024x128_0_0).toLoadRect}
    {hl₃ : (oM : Memref sig .tc .vmem S1024x128 .f32).view.LoadsAt (Rect.unit (s := S1024x128) off S128x128.size hinb).toLoadRect}
    {hx : ((oM : Memref sig .tc .vmem S1024x128 .f32).access (Rect.unit (s := S1024x128) off S128x128.size hinb)).Stores Finset.univ}
    {hm : (Finset.univ : Finset (Rect.unit (s := S1024x128) off S128x128.size hinb).shape.Idx) = Finset.univ ∨ ∀ a, (Rect.unit (s := S1024x128) off S128x128.size hinb).stride a = 1}
    (l : List (Dev nD)) :
    iprop(records m K ∗ st2 c j ∗ ow c 0 ∗ wHeld m c ∗ outHeld m c l)
      ⊢ iprop(((st3 m c j ∗ ow c 0 ∗ wHeld m c ∗ outHeld m c (peer c j :: l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q src dst hsrc hdst) fun _ =>
                .op (.load gM (Rect.unit (s := S8x128x1024) off' S1x128x1024.size hinb').toLoadRect hl₁) fun v =>
                .op (.load wM (Rect.unit (s := S1024x128) ![0, 0] S1024x128.size inb_S1024x128_S1024x128_0_0).toLoadRect hl₂) fun w =>
                .op (.load oM (Rect.unit (s := S1024x128) off S128x128.size hinb).toLoadRect hl₃) fun _ =>
                .op (.store oM (Rect.unit (s := S1024x128) off S128x128.size hinb) (pay v w) Finset.univ hx hm) k) Q) := by
  iintro ⟨#HR, H, HO, Hw, Ho⟩ Hk
  iapply (step_recv m K c j hj q hq hcr) $$ [H HO]
  · iframe; iexact HR
  iintro ⟨H, HO⟩
  unfold st3
  icases H with ⟨HaS, HcS, Hz, Hs⟩
  iapply (step_block m c (peer c j) pay hpay off' hoff' hinb' off hoff hinb l) $$ [Hs Hw Ho]
  · iframe
  iintro ⟨Hs, Hw, Ho⟩
  iapply Hk
  iframe

/-- Any slot's block pays the same credit. -/
theorem row_credit (o : Fin 3 → ℕ) (h : ∀ a, o a + S1x128x1024.size a ≤ S8x128x1024.size a)
    (h' : ∀ a, (Rect.unit (s := S8x128x1024) o S1x128x1024.size h).stride a = 1) :
    (((gM : Memref sig .tc .vmem S8x128x1024 .bf16).slice (Rect.unit (s := S8x128x1024) o S1x128x1024.size h) h').squeeze S128x1024
      squeezes_S1x128x1024_S128x1024).view.dmaCredit = N := rfl

/-- The eight peers, written out. -/
theorem bigSep8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [BI.bigSep_eq_bigSepL_of_eq [0, 1, 2, 3, 4, 5, 6, 7] (by decide) (by decide)]; rfl

theorem all_written (c : Dev nD) :
    ∀ d : Dev nD, d ∈ [peer c 5, peer c 3, peer c 6, peer c 2, peer c 4, peer c 7, peer c 1, c] := by revert c; decide

set_option maxHeartbeats 4000000 in
theorem run_body (c : Dev nD) (Kt : PUnit → sProp 𝕄) :
    iprop(records m K ∗ levAts L lv ∗ atPos ER (barCell c) 0 ∅ 0 ∗ cred (tallyAt (barCell c) () 7)
        ∗ (bigSep Finset.univ fun j : Fin 8 => st0 m c j) ∗ ow c (O₀ c) ∗ xKept m c ∗ wHeld m c ∗ outHeld m c [])
      ⊢ iprop((((bigSep Finset.univ fun j : Fin 8 => st5 m c j) ∗ semVal (barCell c) 0 ∗ ow c 0 ∗ xKept m c ∗ wHeld m c
            ∗ (((c : Thread nD τ).loc cc0_stg2_0) ↦{fullShare} outAt m c)) -∗ Kt ⟨⟩)
          -∗ wp frame (wpE (defs₀ (F := F)) 𝒱₀ (c : Thread nD τ) none) Set.univ
              (cc0_body xM (Memref.isWhole_whole _) wM (Memref.isWhole_whole _) oM (Memref.isWhole_whole _) gM (Memref.isWhole_whole _)
                cc0_scratch1 cc0_scratch2) Kt) := by
  rw [bigSep8, bigSep8]
  simp only [cc0_body_eq_skeleton, cc0_body_skel, k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton, k0_part1_skel, k0_part2_skel,
    k0_part3_skel, k0_part4_skel, k0_part5_skel, k0_part6_skel, k0_part7_skel, k0_part8_skel, k0_part9_skel,
    semSignalWord, semWaitWord, Prog.lift, Prog.bind_op, Prog.bind_ret, Prog.pure_eq_ret, wp_deviceId]
  iintro ⟨#HR, #Hlev, HatB, HcB, ⟨H0, H1, H2, H3, H4, H5, H6, H7⟩, HO, Hx, Hw, Ho⟩ Hk
  unfold O₀ peers
  iapply (step_signal m K c 1 (by decide) _ (Fin.ext (k0_dev1_eq c)) _ rfl _) $$ [H1 HO]
  · iframe; iexact HR
  iintro ⟨H1, HO⟩
  iapply (step_signal m K c 2 (by decide) _ (Fin.ext (k0_dev2_eq c)) _ rfl _) $$ [H2 HO]
  · iframe; iexact HR
  iintro ⟨H2, HO⟩
  iapply (step_signal m K c 3 (by decide) _ (Fin.ext (k0_dev3_eq c)) _ rfl _) $$ [H3 HO]
  · iframe; iexact HR
  iintro ⟨H3, HO⟩
  iapply (step_signal m K c 4 (by decide) _ (Fin.ext (k0_dev4_eq c)) _ rfl _) $$ [H4 HO]
  · iframe; iexact HR
  iintro ⟨H4, HO⟩
  iapply (step_signal m K c 5 (by decide) _ (Fin.ext (k0_dev5_eq c)) _ rfl _) $$ [H5 HO]
  · iframe; iexact HR
  iintro ⟨H5, HO⟩
  iapply (step_signal m K c 6 (by decide) _ (Fin.ext (k0_dev6_eq c)) _ rfl _) $$ [H6 HO]
  · iframe; iexact HR
  iintro ⟨H6, HO⟩
  iapply (step_signal m K c 7 (by decide) _ (Fin.ext (k0_dev7_eq c)) _ rfl _) $$ [H7 HO]
  · iframe; iexact HR
  iintro ⟨H7, HO⟩
  iapply (step_bar m K c _ rfl) $$ [HatB HcB HO]
  · iframe; isplitr <;> iassumption
  iintro ⟨HzB, HO, S1, S2, S3, S4, S5, S6, S7⟩
  iapply (step_send m K c 1 (by decide) _ (Fin.ext (k0_dev8_eq c)) _ (k0_off2_eq c) _ _ _ (send_sem 1 _ rfl _) (recv_sem c _ (k0_off1_eq c) _) _) $$ [H1 S1 HO]
  · iframe; iexact HR
  iintro ⟨H1, HO⟩
  iapply (step_send m K c 2 (by decide) _ (Fin.ext (k0_dev9_eq c)) _ (k0_off2_eq c) _ _ _ (send_sem 2 _ rfl _) (recv_sem c _ (k0_off1_eq c) _) _) $$ [H2 S2 HO]
  · iframe; iexact HR
  iintro ⟨H2, HO⟩
  iapply (step_send m K c 3 (by decide) _ (Fin.ext (k0_dev10_eq c)) _ (k0_off2_eq c) _ _ _ (send_sem 3 _ rfl _) (recv_sem c _ (k0_off1_eq c) _) _) $$ [H3 S3 HO]
  · iframe; iexact HR
  iintro ⟨H3, HO⟩
  iapply (step_send m K c 4 (by decide) _ (Fin.ext (k0_dev11_eq c)) _ (k0_off2_eq c) _ _ _ (send_sem 4 _ rfl _) (recv_sem c _ (k0_off1_eq c) _) _) $$ [H4 S4 HO]
  · iframe; iexact HR
  iintro ⟨H4, HO⟩
  iapply (step_send m K c 5 (by decide) _ (Fin.ext (k0_dev12_eq c)) _ (k0_off2_eq c) _ _ _ (send_sem 5 _ rfl _) (recv_sem c _ (k0_off1_eq c) _) _) $$ [H5 S5 HO]
  · iframe; iexact HR
  iintro ⟨H5, HO⟩
  iapply (step_send m K c 6 (by decide) _ (Fin.ext (k0_dev13_eq c)) _ (k0_off2_eq c) _ _ _ (send_sem 6 _ rfl _) (recv_sem c _ (k0_off1_eq c) _) _) $$ [H6 S6 HO]
  · iframe; iexact HR
  iintro ⟨H6, HO⟩
  iapply (step_send m K c 7 (by decide) _ (Fin.ext (k0_dev14_eq c)) _ (k0_off2_eq c) _ _ _ (send_sem 7 _ rfl _) (recv_sem c _ (k0_off1_eq c) _) _) $$ [H7 S7 HO]
  · iframe; iexact HR
  iintro ⟨H7, HO⟩
  iapply (step_own m c _ (k0_off3_eq c) _ _) $$ [Hx Hw Ho]
  · iframe
  iintro ⟨Hx, Hw, Ho⟩
  rw [show owR c [] = 0 from rfl]
  iapply (step_peer m K c 1 (by decide) k0_pay2 pay2 _ (recv_sem (peer c 1) _ (off4 c 1#32 1 0 rfl rfl) _) (row_credit _ _ _)
    _ (off6 c 1#32 1 0 rfl rfl) _ _ (off7 c 1#32 1 0 rfl rfl) _ _) $$ [H1 HO Hw Ho]
  · iframe; iexact HR
  iintro ⟨H1, HO, Hw, Ho⟩
  iapply (step_peer m K c 7 (by decide) k0_pay3 pay3 _ (recv_sem (peer c 7) _ (off4 c 7#32 7 6 rfl rfl) _) (row_credit _ _ _)
    _ (off6 c 7#32 7 6 rfl rfl) _ _ (off7 c 7#32 7 6 rfl rfl) _ _) $$ [H7 HO Hw Ho]
  · iframe; iexact HR
  iintro ⟨H7, HO, Hw, Ho⟩
  iapply (step_peer m K c 4 (by decide) k0_pay4 pay4 _ (recv_sem (peer c 4) _ (off4 c 4#32 4 3 rfl rfl) _) (row_credit _ _ _)
    _ (off6 c 4#32 4 3 rfl rfl) _ _ (off7 c 4#32 4 3 rfl rfl) _ _) $$ [H4 HO Hw Ho]
  · iframe; iexact HR
  iintro ⟨H4, HO, Hw, Ho⟩
  iapply (step_peer m K c 2 (by decide) k0_pay5 pay5 _ (recv_sem (peer c 2) _ (off4 c 2#32 2 1 rfl rfl) _) (row_credit _ _ _)
    _ (off6 c 2#32 2 1 rfl rfl) _ _ (off7 c 2#32 2 1 rfl rfl) _ _) $$ [H2 HO Hw Ho]
  · iframe; iexact HR
  iintro ⟨H2, HO, Hw, Ho⟩
  iapply (step_peer m K c 6 (by decide) k0_pay6 pay6 _ (recv_sem (peer c 6) _ (off4 c 6#32 6 5 rfl rfl) _) (row_credit _ _ _)
    _ (off6 c 6#32 6 5 rfl rfl) _ _ (off7 c 6#32 6 5 rfl rfl) _ _) $$ [H6 HO Hw Ho]
  · iframe; iexact HR
  iintro ⟨H6, HO, Hw, Ho⟩
  iapply (step_peer m K c 3 (by decide) (fun Y w => k0_pay8 (k0_pay7 Y) w) pay8 _ (recv_sem (peer c 3) _ (off4 c 3#32 3 2 rfl rfl) _) (row_credit _ _ _)
    _ (off6 c 3#32 3 2 rfl rfl) _ _ (off7 c 3#32 3 2 rfl rfl) _ _) $$ [H3 HO Hw Ho]
  · iframe; iexact HR
  iintro ⟨H3, HO, Hw, Ho⟩
  iapply (step_peer m K c 5 (by decide) k0_pay9 pay9 _ (recv_sem (peer c 5) _ (off4 c 5#32 5 4 rfl rfl) _) (row_credit _ _ _)
    _ (off6 c 5#32 5 4 rfl rfl) _ _ (off7 c 5#32 5 4 rfl rfl) _ _) $$ [H5 HO Hw Ho]
  · iframe; iexact HR
  iintro ⟨H5, HO, Hw, Ho⟩
  iapply (step_sent m K c 1 (by decide) _ (send_sem 1 _ rfl _) rfl) $$ [H1 HO]
  · iframe; iexact HR
  iintro ⟨H1, HO⟩
  iapply (step_sent m K c 2 (by decide) _ (send_sem 2 _ rfl _) rfl) $$ [H2 HO]
  · iframe; iexact HR
  iintro ⟨H2, HO⟩
  iapply (step_sent m K c 3 (by decide) _ (send_sem 3 _ rfl _) rfl) $$ [H3 HO]
  · iframe; iexact HR
  iintro ⟨H3, HO⟩
  iapply (step_sent m K c 4 (by decide) _ (send_sem 4 _ rfl _) rfl) $$ [H4 HO]
  · iframe; iexact HR
  iintro ⟨H4, HO⟩
  iapply (step_sent m K c 5 (by decide) _ (send_sem 5 _ rfl _) rfl) $$ [H5 HO]
  · iframe; iexact HR
  iintro ⟨H5, HO⟩
  iapply (step_sent m K c 6 (by decide) _ (send_sem 6 _ rfl _) rfl) $$ [H6 HO]
  · iframe; iexact HR
  iintro ⟨H6, HO⟩
  iapply (step_sent m K c 7 (by decide) _ (send_sem 7 _ rfl _) rfl) $$ [H7 HO]
  · iframe; iexact HR
  iintro ⟨H7, HO⟩
  imod (step_self m K c) $$ [H0] with H0
  · iframe; iexact HR
  unfold outHeld
  icases Ho with ⟨%f, %hf, Ho⟩
  have e := outOK_all m c _ (all_written c) f hf
  subst e
  rw [wp_ret]; imodintro
  iapply Hk
  ihave H1 := (st4_end m c 1) $$ H1
  ihave H2 := (st4_end m c 2) $$ H2
  ihave H3 := (st4_end m c 3) $$ H3
  ihave H4 := (st4_end m c 4) $$ H4
  ihave H5 := (st4_end m c 5) $$ H5
  ihave H6 := (st4_end m c 6) $$ H6
  ihave H7 := (st4_end m c 7) $$ H7
  iframe

end Cert.KernelIdealProof

end
-- ==== Proof.KernelIdeal.Run.lean ====
/-
# The run

The body as the pipeline asks for it, and every run of @main from any memory: it ends, with every result array at what
the body computes, the inputs unchanged and every semaphore at zero.
-/
module

public import proofs.«01_k».proof.Proof.KernelIdeal.Deal
public import proofs.«01_k».proof.Proof.KernelIdeal.Point
public import Idealize.ShloMosaic.Lib.StableHlo.RunHlo
public import Idealize.ShloMosaic.Lib.Pipeline.CollectiveSegs

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

theorem fin_N (t : Fin cfg0.N) : t = t0_0 := fin_N0 t

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The staged `x` in shares: one kept, one per peer. -/
theorem x_shares (c : Dev nD) :
    (((c : Thread nD τ).loc cc0_stg0_0) ↦{fullShare} xstg m c : sProp 𝕄)
      ⊣⊢ iprop(xKept m c ∗ bigSep Finset.univ fun j : Fin 8 => xTok m c j.val) := by
  unfold xKept xTok
  simp only [Memref.view_whole, View.set_whole]
  exact Transfers.pointsTo_toks fullShare 8

theorem st0_all (c : Dev nD) :
    iprop((bigSep Finset.univ fun j : Fin 8 => lin (F := F) c j) ∗ (bigSep Finset.univ fun j : Fin 8 => slotAny (F := F) c (peer c j))
        ∗ (bigSep Finset.univ fun j : Fin 8 => xTok m c j.val) ∗ bigSep Finset.univ fun j : Fin 8 => cr (F := F) c j)
      ⊢ bigSep Finset.univ fun j : Fin 8 => st0 m c j := by
  unfold st0; rw [bigSep_sep', bigSep_sep', bigSep_sep']
theorem st5_all (c : Dev nD) :
    (bigSep Finset.univ fun j : Fin 8 => st5 m c j)
      ⊢ iprop((bigSep Finset.univ fun j : Fin 8 => xTok m c j.val)
        ∗ (bigSep Finset.univ fun j : Fin 8 => iprop(semVal (sendCell c j) 0 ∗ semVal (recvCell c (peer c j)) 0))
        ∗ bigSep Finset.univ fun j : Fin 8 => slotAny (F := F) c (peer c j)) := by
  unfold st5; rw [bigSep_sep', bigSep_sep']

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def bodyPost (c : Dev nD) : sProp 𝕄 :=
  iprop(Φ₁ c ∗ (dats m 0 c).owesAt () t0_0.succ ∗ stg c cc0_stg0_0 (xstg m c) ∗ stg c cc0_stg1_0 (wstg m c) ∗ stg c cc0_stg2_0 (outAt m c))

theorem sound_body (c : Dev nD) :
    bodyPre m c ⊢ wp frame (wpE (defs₀ (F := F)) 𝒱₀ (c : Thread nD τ) none) Set.univ
      (cc0_body xM (Memref.isWhole_whole _) wM (Memref.isWhole_whole _) oM (Memref.isWhole_whole _) gM (Memref.isWhole_whole _)
        cc0_scratch1 cc0_scratch2) (fun _ => bodyPost m c) := by
  unfold bodyPre Φ₀ start ghost
  iintro ⟨⟨⟨⟨%K, #HR, HaB, Hlin⟩, HcB, Hcr, #Hlev⟩, Hscr⟩, Ho, ⟨%d0, %g0, %hg0, Hx⟩, ⟨%d1, %g1, %hg1, Hw⟩, ⟨%d2, %g2, %hg2, Hout⟩⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx; subst hw
  unfold Dat.owesAt Pipeline.owesWithin
  icases Ho with ⟨%W, %hW, HO⟩
  rw [show (dats m 0 c).owed t0_0.castSucc = O₀ c from rfl]
  ihave Hx := (x_shares m c).1 $$ Hx
  icases Hx with ⟨Hx, Htok⟩
  ihave Hs := (scr_split (F := F) c) $$ Hscr
  ihave Hst := (st0_all m c) $$ [Hlin Hs Htok Hcr]
  · iframe
  iapply (run_body m K c fun _ => bodyPost m c) $$ [HaB HcB Hst HO Hx Hw Hout]
  · unfold ow wHeld outHeld
    isplitr; · iexact HR
    isplitr; · iexact Hlev
    isplitl [HaB]; · iexact HaB
    isplitl [HcB]; · iexact HcB
    isplitl [Hst]; · iexact Hst
    isplitl [HO]; · iexists W; iexact HO
    isplitl [Hx]; · iexact Hx
    isplitl [Hw]; · iexact Hw
    iexists g2
    isplitr; · ipureintro; exact nofun
    iexact Hout
  iintro ⟨Hst, HzB, HO, Hx, Hw, Hout⟩
  ihave Hst := (st5_all m c) $$ Hst
  icases Hst with ⟨Htok, Hz, Hs⟩
  ihave Hscr := (scr_join (F := F) c) $$ Hs
  ihave Hx := (x_shares m c).2 $$ [Hx Htok]
  · isplitl [Hx] <;> iassumption
  unfold bodyPost Φ₁ Dat.owesAt Pipeline.owesWithin ow wHeld
  rw [show (dats m 0 c).owed t0_0.succ = 0 from rfl]
  icases HO with ⟨%W', HO⟩
  isplitl [Hscr Hz HzB]
  · isplitl [Hscr]; · iexact Hscr
    isplitl [Hz] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

theorem body_obligation (c : Dev nD) : BodyObligation (dats (F := F) m 0 c) (defs₀ (F := F)) 𝒱₀ () Set.univ := fun t => by
  rw [fin_N t]
  rw [bigSep_W, bigSep_W]
  simp only [owns_whole_eq]
  exact sound_body m c

/-! ## The launch's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

/-- The own semaphores, told by peers. -/
theorem sems_back (c : Dev nD) :
    (bigSep Finset.univ fun j : Fin 8 => iprop(semVal (sendCell c j) 0 ∗ semVal (recvCell c (peer c j)) 0) : sProp 𝕄)
      ⊢ Pipeline.ownSems0 (Ix := Unit) (Name := ℕ) (U := UU) (Lvl := ℕ) (Val := Elt F) (τ := τ) osem c := by
  rw [ownSems0_eq, bigSep_sep', bigSep_univ_equiv (peerE c) fun d : Dev nD => (semVal (recvCell c d) 0 : sProp 𝕄)]
  exact BI.Entails.refl _

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, unscopedSems0_eq]
  unfold Φ₁ scr
  iintro ⟨Hr, Hz, HzB⟩
  isplitl [HzB]; · iexact HzB
  isplitl [Hz]; · iapply (sems_back (F := F) c); iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

/-- Every run of @main from any memory with zero counters ends, each device's arrays at `finalA` and every counter zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_talk m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs after a run are what they were; -/
theorem finalA_x (c : Dev nD) : finalA m c (0 : Fin 3) = m ((c : Thread nD τ).loc main_arg0) := (dats (F := F) m 0 c).arrAt_in (0 : Fin 3) rfl _
theorem finalA_w (c : Dev nD) : finalA m c (1 : Fin 3) = m ((c : Thread nD τ).loc main_arg1) := (dats (F := F) m 0 c).arrAt_in (1 : Fin 3) rfl _
/-- the result is what the body leaves. -/
theorem finalA_out (c : Dev nD) : finalA m c (2 : Fin 3) = outAt m c := by
  refine (dats (F := F) m 0 c).arrAt_eq_of_after_last (2 : Fin 3) t0_0 (by decide +kernel) _ fun j => ?_
  rfl

/-- The staged blocks are the arrays. -/
theorem xstg_eq (c : Dev nD) : (xstg m c : S128x1024.Idx → Elt F .bf16) = m ((c : Thread nD τ).loc main_arg0) := by
  funext i
  refine congrArg (m ((c : Thread nD τ).loc main_arg0)) (funext fun a => Fin.ext ?_)
  exact (ValueKit.rect_emb_unit_val _ _ _ _ _).trans (by fin_cases a <;> exact Nat.zero_add _)
theorem wstg_eq (c : Dev nD) : (wstg m c : S1024x128.Idx → Elt F .bf16) = m ((c : Thread nD τ).loc main_arg1) := by
  funext i
  refine congrArg (m ((c : Thread nD τ).loc main_arg1)) (funext fun a => Fin.ext ?_)
  exact (ValueKit.rect_emb_unit_val _ _ _ _ _).trans (by fin_cases a <;> exact Nat.zero_add _)

/-- The run in the claims' words. -/
theorem run_ends : θ_run defs (onTc (τ := τ) (main (F := F))) ⟨m, fun _ => 0, ρ⟩ (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  θ_run_mono (run_main m ρ) fun r h => ⟨fun c => ⟨(h.1 c 2).trans (finalA_out m c), (h.1 c 0).trans (finalA_x m c), (h.1 c 1).trans (finalA_w m c)⟩, h.2⟩

end Cert.KernelIdealProof

end
-- ==== Proof.Silu.lean ====
/-
# silu over the extended reals

`y · logistic y` is `y / (1 + exp (−y))` for every `y`, the infinities too; and a product of two vectors whose squares sum
to at most 2048 and 1.75 lies in [−60, 60], where clipping to that range changes nothing.
-/
module

public import Idealize.ShloMosaic.PureOps.Ideal
public import Idealize.ShloMosaic.Lib.IdealHost
public import Mathlib.Algebra.Order.BigOperators.Ring.Finset

@[expose] public section

noncomputable section

namespace Cert.AgSilu

open Idealize.ShloMosaic

/-- `y / (1 + exp (−y))`. -/
def silu (y : EReal) : EReal := Ideal.div y (1 + Ideal.exp (-y))

theorem exp_nonneg (x : EReal) : 0 ≤ Ideal.exp x := by
  induction x with
  | bot => simp
  | top => simp
  | coe r => rw [Ideal.exp_coe]; exact_mod_cast (Real.exp_pos r).le

theorem one_add_exp_ne (x : EReal) : 1 + Ideal.exp x ≠ 0 := by
  have h : (0 : EReal) < 1 + Ideal.exp x := lt_of_lt_of_le zero_lt_one (le_add_of_nonneg_right (exp_nonneg x))
  exact h.ne'

/-- The product with the logistic function is the quotient. -/
theorem mul_logistic (y : EReal) : y * Ideal.logistic y = silu y := by
  unfold Ideal.logistic silu Ideal.div
  rw [if_neg (one_add_exp_ne _), if_neg (one_add_exp_ne _), one_mul]

/-! ## The constants -/

theorem ofBits_sixty : Ideal.ofBits .f32 0x42700000#32 = ((60 : ℝ) : EReal) := by
  simp [Ideal.ofBits, Ideal.ieee, -EReal.coe_mul]; norm_num
theorem ofBits_neg_sixty : Ideal.ofBits .f32 0xC2700000#32 = ((-60 : ℝ) : EReal) := by
  simp [Ideal.ofBits, Ideal.ieee, -EReal.coe_mul]; norm_num
theorem ofBits_rows : Ideal.ofBits .f32 0x45000000#32 = ((2048 : ℝ) : EReal) := by
  simp [Ideal.ofBits, Ideal.ieee, -EReal.coe_mul]; norm_num
theorem ofBits_cols : Ideal.ofBits .f32 0x3FE00000#32 = ((7 / 4 : ℝ) : EReal) := by
  simp [Ideal.ofBits, Ideal.ieee, -EReal.coe_mul]; norm_num

/-! ## The bound on a product -/

theorem mul_self_nonneg' (x : EReal) : 0 ≤ x * x := by
  induction x with
  | bot => simp
  | top => simp
  | coe r => rw [← EReal.coe_mul]; exact_mod_cast mul_self_nonneg r

/-- A vector whose squares have a finite sum is real. -/
theorem eq_coe {n : ℕ} (a : Fin n → EReal) (C : ℝ) (h : ∑ k, a k * a k ≤ (C : EReal)) (k : Fin n) : ((a k).toReal : EReal) = a k := by
  have hk : a k * a k ≤ (C : EReal) :=
    (Finset.single_le_sum (f := fun k => a k * a k) (fun i _ => mul_self_nonneg' (a i)) (Finset.mem_univ k)).trans h
  have hlt : a k * a k < ⊤ := hk.trans_lt (EReal.coe_lt_top C)
  refine EReal.coe_toReal (fun e => ?_) (fun e => ?_) <;> · rw [e] at hlt; simp at hlt

theorem coe_sum' {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

theorem product_bound {n : ℕ} (a b : Fin n → EReal) (ha : ∑ k, a k * a k ≤ ((2048 : ℝ) : EReal))
    (hb : ∑ k, b k * b k ≤ ((7 / 4 : ℝ) : EReal)) :
    ((-60 : ℝ) : EReal) ≤ ∑ k, a k * b k ∧ ∑ k, a k * b k ≤ ((60 : ℝ) : EReal) := by
  have ea := eq_coe a _ ha
  have eb := eq_coe b _ hb
  obtain ⟨x, hx⟩ : ∃ x : Fin n → ℝ, ∀ k, a k = (x k : EReal) := ⟨fun k => (a k).toReal, fun k => (ea k).symm⟩
  obtain ⟨y, hy⟩ : ∃ y : Fin n → ℝ, ∀ k, b k = (y k : EReal) := ⟨fun k => (b k).toReal, fun k => (eb k).symm⟩
  simp only [hx, hy, ← EReal.coe_mul, ← coe_sum', EReal.coe_le_coe_iff] at ha hb ⊢
  have hcs := Finset.sum_mul_sq_le_sq_mul_sq Finset.univ x y
  simp only [pow_two (x _), pow_two (y _)] at hcs
  have h0 : (0 : ℝ) ≤ ∑ k, y k * y k := Finset.sum_nonneg fun k _ => mul_self_nonneg _
  have hp : (∑ k, x k * x k) * (∑ k, y k * y k) ≤ 2048 * (7 / 4) := mul_le_mul ha hb h0 (by norm_num)
  have hs : (∑ k, x k * y k) ^ 2 ≤ 60 ^ 2 := by linarith
  exact abs_le.mp (abs_le_of_sq_le_sq hs (by norm_num))

/-- Clipping to [−60, 60] changes nothing there. -/
theorem clip_eq (y : EReal) (h : ((-60 : ℝ) : EReal) ≤ y ∧ y ≤ ((60 : ℝ) : EReal)) :
    min ((60 : ℝ) : EReal) (max ((-60 : ℝ) : EReal) y) = y := by
  rw [max_eq_right h.1, min_eq_right h.2]

end Cert.AgSilu

end
-- ==== Proof.Value.lean ====
/-
# What the kernel leaves, and what the references compute

Both are silu of the product of the two whole arrays: each device holds its columns of it.
-/
module

public import proofs.«01_k».proof.Proof.KernelIdeal.Body
public import proofs.«01_k».proof.Proof.Silu
public import proofs.«01_k».proof.Defs
public import proofs.«01_k».proof.Proof.Gen.ReferenceIdeal.Run
public import proofs.«01_k».proof.Proof.Gen.SiluIdeal.Run
public import proofs.«01_k».proof.Proof.Gen.Pre_moderate_KernelIdeal
public import Idealize.ShloMosaic.Lib.IdealHost
public import Idealize.ShloMosaic.Lib.MatmulPlain
public import Idealize.ShloMosaic.Lib.StackMember
public import Idealize.ShloMosaic.Lib.Layout
public import Idealize.ShloMosaic.PureOps.Ideal.Laws

@[expose] public section

set_option maxRecDepth 16384

noncomputable section

namespace Cert.AgValue

open Idealize.ShloMosaic hiding ix1 ix2 eq_ix2
open Idealize.ShloMosaic.ValueIdx Idealize.ShloMosaic.StackMember Cert.AgSilu

/-- The shape of a whole array, of a device's rows, of its columns, and of one block of its output. -/
abbrev SW : Shape := ⟨2, ![1024, 1024]⟩
abbrev SX : Shape := ⟨2, ![128, 1024]⟩
abbrev SC : Shape := ⟨2, ![1024, 128]⟩
abbrev SB : Shape := ⟨2, ![128, 128]⟩

/-- Entry (i, l) of the product of the whole arrays. -/
def entry (X W : SW.Idx → EReal) (i l : Fin 1024) : EReal := ∑ k : Fin 1024, X (ix2 i k) * W (ix2 k l)

/-- silu of the product. -/
def whole (X W : SW.Idx → EReal) : SW.Idx → EReal := fun j => silu (entry X W (j 0) (j 1))

/-- Where an entry of device `d`'s rows, -/
def atRow (d : Fin 8) (r : Fin 128) : Fin 1024 := ⟨d.val * 128 + r.val, by omega⟩

theorem block_rows (X : SW.Idx → EReal) (d : Fin 8) (r : Fin 128) (k : Fin 1024) :
    Layout.block SX SW 0 8 d X (by decide) (ix2 r k) = X (ix2 (atRow d r) k) :=
  congrArg X (by funext b; fin_cases b <;> rfl)

/-- and of device `c`'s columns, is in the whole. -/
theorem block_cols (W : SW.Idx → EReal) (c : Fin 8) (k : Fin 1024) (l : Fin 128) :
    Layout.block SC SW 1 8 c W (by decide) (ix2 k l) = W (ix2 k (atRow c l)) :=
  congrArg W (by funext b; fin_cases b <;> rfl)

/-! ## The kernel -/

section Kernel
open Cert.KernelIdeal Cert.KernelIdeal.Gen Cert.KernelIdealProof

theorem dot_plain : dot_S128x1024_S1024x128_S128x128_1_0_0_1_n_n = DotDims.plain 128 1024 128 := rfl

/-- A block's entry. -/
theorem pay_apply (v : Vec Ideal S128x1024 .bf16) (w : Vec Ideal S1024x128 .bf16) (r l : Fin 128) :
    k0_pay1 v w (ix2 r l) = silu (∑ k : Fin 1024, v (ix2 r k) * w (ix2 k l)) := by
  have e : matmul (φ₁ := .bf16) (φ₂ := .bf16) dot_S128x1024_S1024x128_S128x128_1_0_0_1_n_n none v w (constant (F := Ideal) S128x128 .f32 0x00000000#32) (ix2 r l)
      = ∑ k : Fin 1024, v (ix2 r k) * w (ix2 k l) := by
    simp only [matmul]
    rw [dot_plain]
    refine (Ideal.matmul_plain_apply none v w _ r l).trans ?_
    rw [constant_apply, Ideal.ofBits_zero_f32]
    exact zero_add _
  rw [← e, ← mul_logistic]
  unfold k0_pay1
  simp only [shapeCast_self]
  rfl

variable (m : (ℓ : Loc nD τ sig) → Buf (Elt Ideal) ℓ) (X W : SW.Idx → EReal)
  (hx : ∀ d : Dev nD, xstg m d = Layout.block SX SW 0 8 d X (by decide))
  (hw : ∀ d : Dev nD, wstg m d = Layout.block SC SW 1 8 d W (by decide))

include hx hw in
/-- Device `c`'s result is its columns of the whole result. -/
theorem outAt_eq (c : Dev nD) : outAt m c = Layout.block SC SW 1 8 c (whole X W) (by decide) := by
  funext i
  obtain ⟨a, l, rfl⟩ : ∃ (a : Fin 1024) (l : Fin 128), i = ix2 a l := ⟨i 0, i 1, eq_ix2 i⟩
  rw [block_cols]
  unfold outAt blkv
  rw [hx, hw]
  refine (pay_apply _ _ _ _).trans ?_
  unfold whole entry
  refine congrArg silu (Finset.sum_congr rfl fun k _ => ?_)
  rw [block_rows, block_cols]
  refine congrArg (fun t => X (ix2 t k) * _) (Fin.ext ?_)
  show a.val / 128 * 128 + a.val % 128 = a.val
  omega

end Kernel

/-! ## The references -/

theorem dot_plain_silu : Cert.SiluIdeal.dot_S1024x1024_S1024x1024_S1024x1024_1_0_0_1_n_n = DotDims.plain 1024 1024 1024 := rfl
theorem dot_plain_ref : Cert.ReferenceIdeal.dot_S1024x1024_S1024x1024_S1024x1024_1_0_0_1_n_n = DotDims.plain 1024 1024 1024 := rfl

section Silu
open Cert.SiluIdeal Cert.SiluIdeal.Gen

theorem silu_eq (X W : FVec Ideal SW .bf16) :
    Host.divf (Host.dotGeneral dot_S1024x1024_S1024x1024_S1024x1024_1_0_0_1_n_n none (extf .f32 X bitsLt_bf16_f32) (extf .f32 W bitsLt_bf16_f32))
      (addf (broadcastInDim S1024x1024 ![] bcast_S_S1024x1024 (constant S_ .f32 0x3F800000#32))
        (Host.exp (Host.negf (Host.dotGeneral dot_S1024x1024_S1024x1024_S1024x1024_1_0_0_1_n_n none (extf .f32 X bitsLt_bf16_f32)
          (extf .f32 W bitsLt_bf16_f32)))))
      = whole X W := by
  funext j
  obtain ⟨a, l, rfl⟩ : ∃ (a l : Fin 1024), j = ix2 a l := ⟨j 0, j 1, eq_ix2 j⟩
  have e := dotGeneral_plain_apply (m := 1024) (n := 1024) (k := 1024) none (extf .f32 X bitsLt_bf16_f32) (extf .f32 W bitsLt_bf16_f32) a l
  rw [dot_plain_silu, hostDivf_apply, addf_apply, broadcastInDim_scalar_apply, constant_apply, Ideal.ofBits_one_f32, e]
  show Ideal.div _ (1 + Ideal.exp (-(_))) = silu _
  unfold silu
  rw [e]
  rfl

end Silu

section Reference
open Cert.ReferenceIdeal Cert.ReferenceIdeal.Gen

theorem ref_eq (X W : FVec Ideal SW .bf16)
    (h : ∀ i l, ((-60 : ℝ) : EReal) ≤ entry X W i l ∧ entry X W i l ≤ ((60 : ℝ) : EReal)) :
    Host.divf (Host.dotGeneral dot_S1024x1024_S1024x1024_S1024x1024_1_0_0_1_n_n none (extf .f32 X bitsLt_bf16_f32) (extf .f32 W bitsLt_bf16_f32))
      (addf (broadcastInDim S1024x1024 ![] bcast_S_S1024x1024 (constant S_ .f32 0x3F800000#32))
        (Host.exp (Host.negf (minimumf (broadcastInDim S1024x1024 ![] bcast_S_S1024x1024 (id (constant S_ .f32 0x42700000#32)))
          (maximumf (broadcastInDim S1024x1024 ![] bcast_S_S1024x1024 (id (constant S_ .f32 0xC2700000#32)))
            (Host.dotGeneral dot_S1024x1024_S1024x1024_S1024x1024_1_0_0_1_n_n none (extf .f32 X bitsLt_bf16_f32) (extf .f32 W bitsLt_bf16_f32)))))))
      = whole X W := by
  funext j
  obtain ⟨a, l, rfl⟩ : ∃ (a l : Fin 1024), j = ix2 a l := ⟨j 0, j 1, eq_ix2 j⟩
  have e : Host.dotGeneral dot_S1024x1024_S1024x1024_S1024x1024_1_0_0_1_n_n none (extf .f32 X bitsLt_bf16_f32) (extf .f32 W bitsLt_bf16_f32) (ix2 a l)
      = entry X W a l :=
    dotGeneral_plain_apply (m := 1024) (n := 1024) (k := 1024) none (extf .f32 X bitsLt_bf16_f32) (extf .f32 W bitsLt_bf16_f32) a l
  have ec : ∀ Y : FVec Ideal S1024x1024 .f32, Host.exp (Host.negf (minimumf (broadcastInDim S1024x1024 ![] bcast_S_S1024x1024 (id (constant S_ .f32 0x42700000#32)))
          (maximumf (broadcastInDim S1024x1024 ![] bcast_S_S1024x1024 (id (constant S_ .f32 0xC2700000#32))) Y))) (ix2 a l)
      = Ideal.exp (-(min ((60 : ℝ) : EReal) (max ((-60 : ℝ) : EReal) (Y (ix2 a l))))) := by
    intro Y
    rw [← ofBits_sixty, ← ofBits_neg_sixty]; rfl
  rw [hostDivf_apply, addf_apply, broadcastInDim_scalar_apply, constant_apply, Ideal.ofBits_one_f32, ec, e, clip_eq _ (h a l)]
  rfl

end Reference

/-! ## The precondition -/

section Moderate
open Cert.Pre_moderate_KernelIdeal Cert.Pre_moderate_KernelIdeal.Gen

theorem of_ole (x y : EReal) (h : Ideal.cmp .ole x y = 1#1) : x ≤ y := by
  by_contra hn
  simp [Ideal.cmp, hn] at h

theorem rows_sum (v : FVec Ideal S128x1024 .bf16) (w : FVec Ideal S1024x128 .bf16) (h : (fn v w).1 = fun _ => 1#1) (r : Fin 128) :
    ∑ k : Fin 1024, v (ix2 r k) * v (ix2 r k) ≤ ((2048 : ℝ) : EReal) := by
  have e := of_ole _ _ (congrFun h (ix1 r))
  rw [← ofBits_rows]
  refine le_trans (le_of_eq ?_) e
  have hR : S128x1024.Reduces [1] S128 := by decide
  beta_reduce
  rw [hostReduceAdd_apply, Ideal.hostReduceAdd_single (h := hR), constant_apply, Ideal.ofBits_zero_f32, zero_add]
  refine Finset.sum_congr rfl fun k _ => ?_
  have hl : hR.lift (ix1 r) k = ix2 r k := by funext b; fin_cases b <;> rfl
  rw [hl]
  rfl

theorem cols_sum (v : FVec Ideal S128x1024 .bf16) (w : FVec Ideal S1024x128 .bf16) (h : (fn v w).2 = fun _ => 1#1) (l : Fin 128) :
    ∑ k : Fin 1024, w (ix2 k l) * w (ix2 k l) ≤ ((7 / 4 : ℝ) : EReal) := by
  have e := of_ole _ _ (congrFun h (ix1 l))
  rw [← ofBits_cols]
  refine le_trans (le_of_eq ?_) e
  have hR : S1024x128.Reduces [0] S128 := by decide
  beta_reduce
  rw [hostReduceAdd_apply, Ideal.hostReduceAdd_single (h := hR), constant_apply, Ideal.ofBits_zero_f32, zero_add]
  refine Finset.sum_congr rfl fun k _ => ?_
  have hl : hR.lift (ix1 l) k = ix2 k l := by funext b; fin_cases b <;> rfl
  rw [hl]
  rfl

/-- Every entry of the product lies in [−60, 60] when every device's rows and columns are short. -/
theorem entry_bound (X W : SW.Idx → EReal)
    (h : ∀ c : Fin 8, (fn (F := Ideal) (Layout.block SX SW 0 8 c X (by decide)) (Layout.block SC SW 1 8 c W (by decide))).1 = (fun _ => 1#1)
      ∧ (fn (F := Ideal) (Layout.block SX SW 0 8 c X (by decide)) (Layout.block SC SW 1 8 c W (by decide))).2 = fun _ => 1#1)
    (i l : Fin 1024) : ((-60 : ℝ) : EReal) ≤ entry X W i l ∧ entry X W i l ≤ ((60 : ℝ) : EReal) := by
  have split (t : Fin 1024) : t = atRow ⟨t.val / 128, by omega⟩ ⟨t.val % 128, by omega⟩ := Fin.ext (by show t.val = t.val / 128 * 128 + t.val % 128; omega)
  refine product_bound (fun k => X (ix2 i k)) (fun k => W (ix2 k l)) ?_ ?_
  · have hr := rows_sum _ _ (h ⟨i.val / 128, by omega⟩).1 ⟨i.val % 128, by omega⟩
    simp only [block_rows, ← split] at hr
    exact hr
  · have hc := cols_sum _ _ (h ⟨l.val / 128, by omega⟩).2 ⟨l.val % 128, by omega⟩
    simp only [block_cols, ← split] at hc
    exact hc

end Moderate

end Cert.AgValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.SiluIdeal
public import proofs.«01_k».proof.Proof.Gen.Pre_moderate_KernelIdeal
public import proofs.«01_k».proof.Proof.Gen.Pre_moderate_ReferenceIdeal
public import proofs.«01_k».proof.Proof.Gen.ReferenceIdeal.Run
public import proofs.«01_k».proof.Proof.Gen.SiluIdeal.Run
public import proofs.«01_k».proof.Proof.Kernel.Run
public import proofs.«01_k».proof.Proof.KernelIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-! ## The frames -/

theorem frame_kernel : quiescent_Kernel (hKernel := Cert.Kernel.Gen.facts) := fun m g _ =>
  θ_run_mono (Cert.KernelProof.run_ends m g) fun _ h => ⟨fun c => (h.1 c).2, h.2⟩

theorem frame_ideal : quiescent_KernelIdeal (hKernelIdeal := Cert.KernelIdeal.Gen.facts) := fun m g _ =>
  θ_run_mono (Cert.KernelIdealProof.run_ends m g) fun _ h => ⟨fun c => (h.1 c).2, h.2⟩

/-- The references are host programs that declare no semaphore. -/
theorem frame_reference : quiescent_ReferenceIdeal (hReferenceIdeal := Cert.ReferenceIdeal.Gen.facts) := fun m g _ =>
  θ_run_mono (Cert.ReferenceIdeal.Value.run m g) fun r h => ⟨fun c => (h c).2, sem_eq_zero_of_no_sems (by decide) r.2⟩

theorem frame_silu : quiescent_SiluIdeal (hSiluIdeal := Cert.SiluIdeal.Gen.facts) := fun m g _ =>
  θ_run_mono (Cert.SiluIdeal.Value.run m g) fun r h => ⟨fun c => (h c).2, sem_eq_zero_of_no_sems (by decide) r.2⟩

/-! ## The values -/

section Values
open Cert.AgValue

variable (m : (ℓ : Loc Cert.KernelIdeal.nD Cert.KernelIdeal.τ Cert.KernelIdeal.sig) → Buf (Elt Ideal) ℓ) (g : Dev Cert.KernelIdeal.nD → PrngReg)
  (X W : SW.Idx → EReal)

/-- The kernel's half: from blocks of `X` and `W`, every device ends holding its columns of silu of their product. -/
theorem kernel_value
    (h : ∀ c : Dev Cert.KernelIdeal.nD,
      m ((c.tc : Thread Cert.KernelIdeal.nD Cert.KernelIdeal.τ).loc Cert.KernelIdeal.main_arg0) = Layout.block SX SW 0 8 c X (by decide)
      ∧ m ((c.tc : Thread Cert.KernelIdeal.nD Cert.KernelIdeal.τ).loc Cert.KernelIdeal.main_arg1) = Layout.block SC SW 1 8 c W (by decide)) :
    θ_run (Cert.KernelIdeal.defs (F := Ideal)) (onTc (τ := Cert.KernelIdeal.τ) (Cert.KernelIdeal.main (F := Ideal))) ⟨m, fun _ => 0, g⟩ (fun r =>
      ∀ c : Dev Cert.KernelIdeal.nD,
        r.2.mem ((c.tc : Thread Cert.KernelIdeal.nD Cert.KernelIdeal.τ).loc Cert.KernelIdeal.main_v1) = Layout.block SC SW 1 8 c (whole X W) (by decide)
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) :=
  θ_run_mono (Cert.KernelIdealProof.run_ends m g) fun _ hr c =>
    ⟨(hr.1 c).1.trans (outAt_eq m X W (fun d => (Cert.KernelIdealProof.xstg_eq m d).trans (h d).1)
      (fun d => (Cert.KernelIdealProof.wstg_eq m d).trans (h d).2) c), (hr.1 c).2⟩

end Values

theorem value_silu : algebraic_KernelIdeal_SiluIdeal (hKernelIdeal := Cert.KernelIdeal.Gen.facts) (hSiluIdeal := Cert.SiluIdeal.Gen.facts) := by
  intro m g m' g' _ h
  exact ⟨_, kernel_value m g _ _ h, θ_run_mono (Cert.SiluIdeal.Value.run m' g') fun _ hr => ⟨(hr 0).1.trans (Cert.AgValue.silu_eq _ _), (hr 0).2⟩⟩

theorem value_reference : algebraic_KernelIdeal_ReferenceIdeal_pre_moderate_KernelIdeal (hKernelIdeal := Cert.KernelIdeal.Gen.facts)
    (hReferenceIdeal := Cert.ReferenceIdeal.Gen.facts) (hPre_moderate_KernelIdeal := Cert.Pre_moderate_KernelIdeal.Gen.facts) := by
  intro m g m' g' hp h
  have hb := Cert.AgValue.entry_bound _ _ fun c => by rw [← (h c).1, ← (h c).2]; exact hp c
  exact ⟨_, kernel_value m g _ _ h,
    θ_run_mono (Cert.ReferenceIdeal.Value.run m' g') fun _ hr => ⟨(hr 0).1.trans (Cert.AgValue.ref_eq _ _ hb), (hr 0).2⟩⟩

theorem claim : Cert.Claim := ⟨Cert.Kernel.Gen.facts, Cert.KernelIdeal.Gen.facts, Cert.ReferenceIdeal.Gen.facts, Cert.SiluIdeal.Gen.facts, Cert.Pre_moderate_KernelIdeal.Gen.facts, Cert.Pre_moderate_ReferenceIdeal.Gen.facts,
  frame_kernel, frame_ideal, fun m g _ => frame_ideal m g trivial, frame_reference, fun m g _ => frame_reference m g trivial, frame_silu, trivial,
  value_reference, value_silu⟩

end Cert.Proof

end
